-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S12x32x512 : Shape := ⟨3, ![12, 32, 512]⟩
abbrev S32 : Shape := ⟨1, ![32]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1x1024x1024, .f32⟩
  | .local _ .vmem, ⟨1, _⟩ => ⟨S1024x512, .f32⟩
  | .local _ .vmem, ⟨2, _⟩ => ⟨S12x32x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v34 : BitVec 32 := Scalar.muli v10 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
def k0_off1 (d0 : Dev nD) (c0_i32_30 : BitVec 32) : Fin 3 → Nat :=
  let c0_i32_46 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v46 : BitVec 32 := Scalar.muli v13 c256_i32
  let v47 : BitVec 32 := Scalar.addi v46 c0_i32_30
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_28 v2
  let c512_i32_29 : BitVec 32 := 512#32
  let v45 : BitVec 32 := Scalar.muli v44 c512_i32_29
  ![0, v47.toNat, v45.toNat]
def k0_dev4 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v70 : BitVec 32 := Scalar.muli v9 c4_i32_50
  let v71 : BitVec 32 := Scalar.addi c0_i32_51 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v72 : BitVec 32 := Scalar.muli v5 c2_i32_52
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v74 : BitVec 32 := Scalar.muli v8 c1_i32_53
  let v75 : BitVec 32 := Scalar.addi v73 v74
  v75.toNat
def k0_dev5 (d0 : Dev nD) : Nat :=
  let c0_i32_61 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_60 : BitVec 32 := 4#32
  let v84 : BitVec 32 := Scalar.muli v9 c4_i32_60
  let v85 : BitVec 32 := Scalar.addi c0_i32_61 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v86 : BitVec 32 := Scalar.muli v5 c2_i32_62
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v88 : BitVec 32 := Scalar.muli v8 c1_i32_63
  let v89 : BitVec 32 := Scalar.addi v87 v88
  v89.toNat
def k0_dev6 (d0 : Dev nD) : Nat :=
  let c0_i32_71 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_70 : BitVec 32 := 4#32
  let v98 : BitVec 32 := Scalar.muli v9 c4_i32_70
  let v99 : BitVec 32 := Scalar.addi c0_i32_71 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v100 : BitVec 32 := Scalar.muli v5 c2_i32_72
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v102 : BitVec 32 := Scalar.muli v8 c1_i32_73
  let v103 : BitVec 32 := Scalar.addi v101 v102
  v103.toNat
def k0_dev7 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v112 : BitVec 32 := Scalar.muli v9 c4_i32_80
  let v113 : BitVec 32 := Scalar.addi c0_i32_81 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v114 : BitVec 32 := Scalar.muli v5 c2_i32_82
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v116 : BitVec 32 := Scalar.muli v8 c1_i32_83
  let v117 : BitVec 32 := Scalar.addi v115 v116
  v117.toNat
def k0_dev8 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v126 : BitVec 32 := Scalar.muli v9 c4_i32_90
  let v127 : BitVec 32 := Scalar.addi c0_i32_91 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v128 : BitVec 32 := Scalar.muli v5 c2_i32_92
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v130 : BitVec 32 := Scalar.muli v8 c1_i32_93
  let v131 : BitVec 32 := Scalar.addi v129 v130
  v131.toNat
def k0_dev9 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v140 : BitVec 32 := Scalar.muli v9 c4_i32_99
  let v141 : BitVec 32 := Scalar.addi c0_i32_100 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v142 : BitVec 32 := Scalar.muli v5 c2_i32_101
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v144 : BitVec 32 := Scalar.muli v8 c1_i32_102
  let v145 : BitVec 32 := Scalar.addi v143 v144
  v145.toNat
def k0_dev10 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v154 : BitVec 32 := Scalar.muli v9 c4_i32_108
  let v155 : BitVec 32 := Scalar.addi c0_i32_109 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v156 : BitVec 32 := Scalar.muli v5 c2_i32_110
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v158 : BitVec 32 := Scalar.muli v8 c1_i32_111
  let v159 : BitVec 32 := Scalar.addi v157 v158
  v159.toNat
def k0_dev11 (d0 : Dev nD) : Nat :=
  let c0_i32_118 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_117 : BitVec 32 := 4#32
  let v168 : BitVec 32 := Scalar.muli v9 c4_i32_117
  let v169 : BitVec 32 := Scalar.addi c0_i32_118 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v170 : BitVec 32 := Scalar.muli v5 c2_i32_119
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v172 : BitVec 32 := Scalar.muli v8 c1_i32_120
  let v173 : BitVec 32 := Scalar.addi v171 v172
  v173.toNat
def k0_off2 (d0 : Dev nD) (c0_i32_39 : BitVec 32) : Fin 3 → Nat :=
  let c0_i32_123 : BitVec 32 := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_38 : BitVec 32 := 256#32
  let v62 : BitVec 32 := Scalar.muli v23 c256_i32_38
  let v63 : BitVec 32 := Scalar.addi v62 c0_i32_39
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_28 v2
  let c512_i32_29 : BitVec 32 := 512#32
  let v45 : BitVec 32 := Scalar.muli v44 c512_i32_29
  ![0, v63.toNat, v45.toNat]
def k0_dev12 (d0 : Dev nD) : Nat :=
  let c0_i32_127 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_126 : BitVec 32 := 4#32
  let v182 : BitVec 32 := Scalar.muli v9 c4_i32_126
  let v183 : BitVec 32 := Scalar.addi c0_i32_127 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v184 : BitVec 32 := Scalar.muli v5 c2_i32_128
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v186 : BitVec 32 := Scalar.muli v8 c1_i32_129
  let v187 : BitVec 32 := Scalar.addi v185 v186
  v187.toNat
def k0_dev13 (d0 : Dev nD) : Nat :=
  let c0_i32_136 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_135 : BitVec 32 := 4#32
  let v196 : BitVec 32 := Scalar.muli v9 c4_i32_135
  let v197 : BitVec 32 := Scalar.addi c0_i32_136 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v198 : BitVec 32 := Scalar.muli v5 c2_i32_137
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v200 : BitVec 32 := Scalar.muli v8 c1_i32_138
  let v201 : BitVec 32 := Scalar.addi v199 v200
  v201.toNat
def k0_dev14 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v210 : BitVec 32 := Scalar.muli v9 c4_i32_144
  let v211 : BitVec 32 := Scalar.addi c0_i32_145 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v212 : BitVec 32 := Scalar.muli v5 c2_i32_146
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v214 : BitVec 32 := Scalar.muli v8 c1_i32_147
  let v215 : BitVec 32 := Scalar.addi v213 v214
  v215.toNat
def k0_dev15 (d0 : Dev nD) : Nat :=
  let c0_i32_154 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_153 : BitVec 32 := 4#32
  let v224 : BitVec 32 := Scalar.muli v9 c4_i32_153
  let v225 : BitVec 32 := Scalar.addi c0_i32_154 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v226 : BitVec 32 := Scalar.muli v5 c2_i32_155
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v228 : BitVec 32 := Scalar.muli v8 c1_i32_156
  let v229 : BitVec 32 := Scalar.addi v227 v228
  v229.toNat
def k0_off3 (d0 : Dev nD) (c0_i32_170 : BitVec 32) : Fin 3 → Nat :=
  let c0 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_169 : BitVec 32 := 256#32
  let v250 : BitVec 32 := Scalar.muli v13 c256_i32_169
  let v251 : BitVec 32 := Scalar.addi v250 c0_i32_170
  let v252 : Index := Scalar.indexCast v251
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v253 : Index := Scalar.indexCast v24
  ![0, v252.toNat, v253.toNat]
def k0_off4 (d0 : Dev nD) (c0_i32_170 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_169 : BitVec 32 := 256#32
  let v250 : BitVec 32 := Scalar.muli v13 c256_i32_169
  let v251 : BitVec 32 := Scalar.addi v250 c0_i32_170
  let v259 : Index := Scalar.indexCast v251
  let c0_174 : Index := 0#32
  ![v259.toNat, 0]
def k0_off5 (d0 : Dev nD) (c0_i32_170 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_169 : BitVec 32 := 256#32
  let v250 : BitVec 32 := Scalar.muli v13 c256_i32_169
  let v251 : BitVec 32 := Scalar.addi v250 c0_i32_170
  let c0_i32_180 : BitVec 32 := 0#32
  ![v251.toNat, 0]
def k0_dev16 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v261 : BitVec 32 := Scalar.muli v2 c4_i32_176
  let v262 : BitVec 32 := Scalar.addi c0_i32_177 v261
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_178 : BitVec 32 := 2#32
  let v263 : BitVec 32 := Scalar.muli v10 c2_i32_178
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v265 : BitVec 32 := Scalar.muli v8 c1_i32_179
  let v266 : BitVec 32 := Scalar.addi v264 v265
  v266.toNat
def k0_dev17 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v273 : BitVec 32 := Scalar.muli v2 c4_i32_183
  let v274 : BitVec 32 := Scalar.addi c0_i32_184 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v275 : BitVec 32 := Scalar.muli v5 c2_i32_185
  let v276 : BitVec 32 := Scalar.addi v274 v275
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_186 : BitVec 32 := 1#32
  let v277 : BitVec 32 := Scalar.muli v11 c1_i32_186
  let v278 : BitVec 32 := Scalar.addi v276 v277
  v278.toNat
def k0_dev18 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_206 : BitVec 32 := 4#32
  let v308 : BitVec 32 := Scalar.muli v2 c4_i32_206
  let v309 : BitVec 32 := Scalar.addi c0_i32_207 v308
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_208 : BitVec 32 := 2#32
  let v310 : BitVec 32 := Scalar.muli v10 c2_i32_208
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v312 : BitVec 32 := Scalar.muli v8 c1_i32_209
  let v313 : BitVec 32 := Scalar.addi v311 v312
  v313.toNat
def k0_dev19 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v320 : BitVec 32 := Scalar.muli v2 c4_i32_213
  let v321 : BitVec 32 := Scalar.addi c0_i32_214 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v322 : BitVec 32 := Scalar.muli v5 c2_i32_215
  let v323 : BitVec 32 := Scalar.addi v321 v322
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_216 : BitVec 32 := 1#32
  let v324 : BitVec 32 := Scalar.muli v11 c1_i32_216
  let v325 : BitVec 32 := Scalar.addi v323 v324
  v325.toNat
def k0_dev20 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v355 : BitVec 32 := Scalar.muli v2 c4_i32_236
  let v356 : BitVec 32 := Scalar.addi c0_i32_237 v355
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_238 : BitVec 32 := 2#32
  let v357 : BitVec 32 := Scalar.muli v10 c2_i32_238
  let v358 : BitVec 32 := Scalar.addi v356 v357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v359 : BitVec 32 := Scalar.muli v8 c1_i32_239
  let v360 : BitVec 32 := Scalar.addi v358 v359
  v360.toNat
def k0_dev21 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v367 : BitVec 32 := Scalar.muli v2 c4_i32_243
  let v368 : BitVec 32 := Scalar.addi c0_i32_244 v367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v369 : BitVec 32 := Scalar.muli v5 c2_i32_245
  let v370 : BitVec 32 := Scalar.addi v368 v369
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_246 : BitVec 32 := 1#32
  let v371 : BitVec 32 := Scalar.muli v11 c1_i32_246
  let v372 : BitVec 32 := Scalar.addi v370 v371
  v372.toNat
def k0_dev22 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v402 : BitVec 32 := Scalar.muli v2 c4_i32_266
  let v403 : BitVec 32 := Scalar.addi c0_i32_267 v402
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_268 : BitVec 32 := 2#32
  let v404 : BitVec 32 := Scalar.muli v10 c2_i32_268
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v406 : BitVec 32 := Scalar.muli v8 c1_i32_269
  let v407 : BitVec 32 := Scalar.addi v405 v406
  v407.toNat
def k0_dev23 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v414 : BitVec 32 := Scalar.muli v2 c4_i32_273
  let v415 : BitVec 32 := Scalar.addi c0_i32_274 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_275 : BitVec 32 := 2#32
  let v416 : BitVec 32 := Scalar.muli v5 c2_i32_275
  let v417 : BitVec 32 := Scalar.addi v415 v416
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_276 : BitVec 32 := 1#32
  let v418 : BitVec 32 := Scalar.muli v11 c1_i32_276
  let v419 : BitVec 32 := Scalar.addi v417 v418
  v419.toNat
def k0_dev24 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v449 : BitVec 32 := Scalar.muli v2 c4_i32_296
  let v450 : BitVec 32 := Scalar.addi c0_i32_297 v449
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_298 : BitVec 32 := 2#32
  let v451 : BitVec 32 := Scalar.muli v10 c2_i32_298
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v453 : BitVec 32 := Scalar.muli v8 c1_i32_299
  let v454 : BitVec 32 := Scalar.addi v452 v453
  v454.toNat
def k0_dev25 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v461 : BitVec 32 := Scalar.muli v2 c4_i32_303
  let v462 : BitVec 32 := Scalar.addi c0_i32_304 v461
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_305 : BitVec 32 := 2#32
  let v463 : BitVec 32 := Scalar.muli v5 c2_i32_305
  let v464 : BitVec 32 := Scalar.addi v462 v463
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_306 : BitVec 32 := 1#32
  let v465 : BitVec 32 := Scalar.muli v11 c1_i32_306
  let v466 : BitVec 32 := Scalar.addi v464 v465
  v466.toNat
def k0_dev26 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_326 : BitVec 32 := 4#32
  let v496 : BitVec 32 := Scalar.muli v2 c4_i32_326
  let v497 : BitVec 32 := Scalar.addi c0_i32_327 v496
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_328 : BitVec 32 := 2#32
  let v498 : BitVec 32 := Scalar.muli v10 c2_i32_328
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v500 : BitVec 32 := Scalar.muli v8 c1_i32_329
  let v501 : BitVec 32 := Scalar.addi v499 v500
  v501.toNat
def k0_dev27 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v508 : BitVec 32 := Scalar.muli v2 c4_i32_333
  let v509 : BitVec 32 := Scalar.addi c0_i32_334 v508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_335 : BitVec 32 := 2#32
  let v510 : BitVec 32 := Scalar.muli v5 c2_i32_335
  let v511 : BitVec 32 := Scalar.addi v509 v510
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_336 : BitVec 32 := 1#32
  let v512 : BitVec 32 := Scalar.muli v11 c1_i32_336
  let v513 : BitVec 32 := Scalar.addi v511 v512
  v513.toNat
def k0_dev28 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v543 : BitVec 32 := Scalar.muli v2 c4_i32_356
  let v544 : BitVec 32 := Scalar.addi c0_i32_357 v543
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_358 : BitVec 32 := 2#32
  let v545 : BitVec 32 := Scalar.muli v10 c2_i32_358
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v547 : BitVec 32 := Scalar.muli v8 c1_i32_359
  let v548 : BitVec 32 := Scalar.addi v546 v547
  v548.toNat
def k0_dev29 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_363 : BitVec 32 := 4#32
  let v555 : BitVec 32 := Scalar.muli v2 c4_i32_363
  let v556 : BitVec 32 := Scalar.addi c0_i32_364 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v557 : BitVec 32 := Scalar.muli v5 c2_i32_365
  let v558 : BitVec 32 := Scalar.addi v556 v557
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_366 : BitVec 32 := 1#32
  let v559 : BitVec 32 := Scalar.muli v11 c1_i32_366
  let v560 : BitVec 32 := Scalar.addi v558 v559
  v560.toNat
def k0_dev30 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_386 : BitVec 32 := 4#32
  let v590 : BitVec 32 := Scalar.muli v2 c4_i32_386
  let v591 : BitVec 32 := Scalar.addi c0_i32_387 v590
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_388 : BitVec 32 := 2#32
  let v592 : BitVec 32 := Scalar.muli v10 c2_i32_388
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v594 : BitVec 32 := Scalar.muli v8 c1_i32_389
  let v595 : BitVec 32 := Scalar.addi v593 v594
  v595.toNat
def k0_dev31 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_393 : BitVec 32 := 4#32
  let v602 : BitVec 32 := Scalar.muli v2 c4_i32_393
  let v603 : BitVec 32 := Scalar.addi c0_i32_394 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_395 : BitVec 32 := 2#32
  let v604 : BitVec 32 := Scalar.muli v5 c2_i32_395
  let v605 : BitVec 32 := Scalar.addi v603 v604
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_396 : BitVec 32 := 1#32
  let v606 : BitVec 32 := Scalar.muli v11 c1_i32_396
  let v607 : BitVec 32 := Scalar.addi v605 v606
  v607.toNat
def k0_off6 (d0 : Dev nD) (c128_i32_408 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c256_i32_407 : BitVec 32 := 256#32
  let v624 : BitVec 32 := Scalar.muli v19 c256_i32_407
  let v625 : BitVec 32 := Scalar.addi v624 c128_i32_408
  let c0_i32_414 : BitVec 32 := 0#32
  ![v625.toNat, 0]
def k0_dev32 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v626 : BitVec 32 := Scalar.muli v2 c4_i32_410
  let v627 : BitVec 32 := Scalar.addi c0_i32_411 v626
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_412 : BitVec 32 := 2#32
  let v628 : BitVec 32 := Scalar.muli v10 c2_i32_412
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_413 : BitVec 32 := 1#32
  let v630 : BitVec 32 := Scalar.muli v8 c1_i32_413
  let v631 : BitVec 32 := Scalar.addi v629 v630
  v631.toNat
def k0_dev33 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v650 : BitVec 32 := Scalar.muli v2 c4_i32_427
  let v651 : BitVec 32 := Scalar.addi c0_i32_428 v650
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_429 : BitVec 32 := 2#32
  let v652 : BitVec 32 := Scalar.muli v10 c2_i32_429
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_430 : BitVec 32 := 1#32
  let v654 : BitVec 32 := Scalar.muli v8 c1_i32_430
  let v655 : BitVec 32 := Scalar.addi v653 v654
  v655.toNat
def k0_off7 (d0 : Dev nD) (c192_i32_442 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_441 : BitVec 32 := 256#32
  let v672 : BitVec 32 := Scalar.muli v16 c256_i32_441
  let v673 : BitVec 32 := Scalar.addi v672 c192_i32_442
  let c0_i32_448 : BitVec 32 := 0#32
  ![v673.toNat, 0]
def k0_dev34 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v674 : BitVec 32 := Scalar.muli v2 c4_i32_444
  let v675 : BitVec 32 := Scalar.addi c0_i32_445 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v676 : BitVec 32 := Scalar.muli v5 c2_i32_446
  let v677 : BitVec 32 := Scalar.addi v675 v676
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_447 : BitVec 32 := 1#32
  let v678 : BitVec 32 := Scalar.muli v11 c1_i32_447
  let v679 : BitVec 32 := Scalar.addi v677 v678
  v679.toNat
def k0_dev35 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v698 : BitVec 32 := Scalar.muli v2 c4_i32_461
  let v699 : BitVec 32 := Scalar.addi c0_i32_462 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v700 : BitVec 32 := Scalar.muli v5 c2_i32_463
  let v701 : BitVec 32 := Scalar.addi v699 v700
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_464 : BitVec 32 := 1#32
  let v702 : BitVec 32 := Scalar.muli v11 c1_i32_464
  let v703 : BitVec 32 := Scalar.addi v701 v702
  v703.toNat
def k0_off8 (d0 : Dev nD) (c0_i32_478 : BitVec 32) : Fin 3 → Nat :=
  let c0_479 : Index := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_477 : BitVec 32 := 256#32
  let v722 : BitVec 32 := Scalar.muli v23 c256_i32_477
  let v723 : BitVec 32 := Scalar.addi v722 c0_i32_478
  let v724 : Index := Scalar.indexCast v723
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v24 : BitVec 32 := Scalar.muli v2 c512_i32
  let v725 : Index := Scalar.indexCast v24
  ![0, v724.toNat, v725.toNat]
def k0_off9 (d0 : Dev nD) (c0_i32_478 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c256_i32_477 : BitVec 32 := 256#32
  let v722 : BitVec 32 := Scalar.muli v23 c256_i32_477
  let v723 : BitVec 32 := Scalar.addi v722 c0_i32_478
  let v731 : Index := Scalar.indexCast v723
  let c0_482 : Index := 0#32
  ![v731.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh, the copies and the order of events

Eight devices sit on a 2 × 2 × 2 mesh; device `c` has the coordinates `(c / 4, c / 2 % 2, c % 2)`, called
x, y and z.  Every device issues the same 32 remote copies ("slots").  This module is plain arithmetic on
numbers: who the neighbours are, which block of rows a slot moves, and in which order one device goes through
its events.  Nothing here mentions a program, a buffer or a float.

A device's progress is a set of tokens (`Token`), each of them standing for one thing the device has at that
moment: a right to send, a copy in flight, a block of rows that has arrived.  An event (`Step`) takes some
tokens away (`pre`) and brings others (`post`).  The sequence of one device's events is `steps`, and
`steps_ok` states the only facts needed of it: every event finds its tokens, and while a device waits,
everything it still owes others sits at a higher level than what it waits for.

A set of tokens is kept as one number, one bit per token, so that the whole sequence is checked by computing.
-/
module

public import Mathlib.Data.Finset.Basic
public import Mathlib.Data.Finset.Sort
public import Mathlib.Data.Fintype.Basic
public import Mathlib.Data.Fintype.Prod
public import Mathlib.Data.Nat.Bitwise

@[expose] public section

namespace Cert.Mesh

/-! ## Neighbours and rows -/

/-- The neighbour of device `c` along axis 0 (x), 1 (y) or 2 (z): the same place with that coordinate flipped. -/
def nb (a : Fin 3) (c : Fin 8) : Fin 8 :=
  match a with
  | 0 => ⟨(4 * (1 - c.val / 4)) + c.val % 4, by omega⟩
  | 1 => ⟨4 * (c.val / 4) + 2 * (1 - c.val / 2 % 2) + c.val % 2, by omega⟩
  | 2 => ⟨2 * (c.val / 2) + (1 - c.val % 2), by omega⟩

/-- The device across both y and z. -/
def diag (c : Fin 8) : Fin 8 := nb 1 (nb 2 c)

/-- The x coordinate, which is also the column half a device is responsible for. -/
def half (c : Fin 8) : ℕ := c.val / 4

/-- The quarter of the 1024 rows that device `c` adds up: `2 y + z`. -/
def quarter (c : Fin 8) : ℕ := c.val % 4

/-- The block of 32 rows (of 32 such blocks) of device `c`'s `k`-th sum: the eight blocks of its own quarter, then
    the first four of the quarter across. -/
def sumBlk (c : Fin 8) (k : ℕ) : ℕ := if k < 8 then 8 * quarter c + k else 8 * quarter (diag c) + (k - 8)

/-- The axis along which slot `s` is sent. -/
def axis (s : Fin 32) : Fin 3 :=
  if s.val < 12 then 0 else if s.val < 20 then 1 else if s.val < 28 then 2 else if s.val < 30 then 1 else 2

/-- The block of 32 rows that device `c` sends in slot `s`. -/
def sendBlk (c : Fin 8) (s : Fin 32) : ℕ :=
  if s.val < 12 then sumBlk c s.val
  else if s.val < 20 then 8 * quarter c + (s.val - 12)
  else if s.val < 28 then 8 * quarter c + (s.val - 20)
  else if s.val < 30 then 8 * quarter (nb 2 c) + (s.val - 24)
  else 8 * quarter (nb 1 c) + (s.val - 24)

/-- The block of 32 rows that device `c` receives in slot `s`. -/
def recvBlk (c : Fin 8) (s : Fin 32) : ℕ := sendBlk (nb (axis s) c) s

/-- The device that added up block `b` of the rows device `c` ends with. -/
def owner (c : Fin 8) (b : ℕ) : Fin 8 :=
  if b / 8 = quarter c then c
  else if b / 8 = quarter (nb 1 c) then nb 1 c
  else if b / 8 = quarter (nb 2 c) then nb 2 c
  else if b % 8 < 4 then c else diag c

/-- A neighbour's neighbour along the same axis is the device itself. -/
theorem nb_nb (a : Fin 3) (c : Fin 8) : nb a (nb a c) = c := by revert a c; decide

theorem half_nb_x (c : Fin 8) : half (nb 0 c) = 1 - half c := by revert c; decide

theorem half_lt (c : Fin 8) : half c < 2 := by revert c; decide

/-- The owner of a block lies in the same column half. -/
theorem half_owner (c : Fin 8) (b : ℕ) : half (owner c b) = half c := by
  have h : half c = half c ∧ half (nb 1 c) = half c ∧ half (nb 2 c) = half c ∧ half (diag c) = half c := by
    revert c; decide
  unfold owner
  split_ifs
  · exact h.1
  · exact h.2.1
  · exact h.2.2.1
  · exact h.1
  · exact h.2.2.2

/-- Neighbours along x add up the same blocks. -/
theorem sumBlk_nb_x (c : Fin 8) (k : ℕ) : sumBlk (nb 0 c) k = sumBlk c k := by
  have h : quarter (nb 0 c) = quarter c ∧ quarter (diag (nb 0 c)) = quarter (diag c) := by revert c; decide
  unfold sumBlk; rw [h.1, h.2]

/-- A device owns the blocks it adds up. -/
theorem owner_sumBlk (c : Fin 8) (k : Fin 12) : owner c (sumBlk c k.val) = c := by revert c k; decide

/-- The slots from 12 on carry finished sums: sender and receiver agree on who added the block up. -/
theorem owner_send (c : Fin 8) (s : Fin 32) (h : 12 ≤ s.val) :
    owner (nb (axis s) c) (sendBlk c s) = owner c (sendBlk c s) := by revert c s; decide

theorem sendBlk_lt (c : Fin 8) (s : Fin 32) : sendBlk c s < 32 := by revert c s; decide
theorem recvBlk_lt (c : Fin 8) (s : Fin 32) : recvBlk c s < 32 := sendBlk_lt _ _
theorem sumBlk_lt (c : Fin 8) (k : Fin 12) : sumBlk c k.val < 32 := by revert c k; decide

/-- What a device forwards (slots 28 to 31) it received in these slots. -/
def fwdOf (s : Fin 32) : Fin 32 :=
  match s.val with
  | 28 => 24 | 29 => 25 | 30 => 18 | _ => 19

theorem recvBlk_fwdOf (c : Fin 8) (s : Fin 32) (h : 28 ≤ s.val) : recvBlk c (fwdOf s) = sendBlk c s := by
  revert c s; decide

/-- The slots 12 to 19 and 20 to 27 carry the sums of the device's own quarter. -/
theorem sendBlk_sum (c : Fin 8) (s : Fin 32) (h : 12 ≤ s.val ∧ s.val < 28) :
    sendBlk c s = sumBlk c ((s.val - 12) % 8) := by revert c s; decide

/-- The slots up to 11 carry the addends of the other column half. -/
theorem sendBlk_x (c : Fin 8) (s : Fin 32) (h : s.val < 12) : sendBlk c s = sumBlk c s.val := if_pos h

/-- The blocks of the result on one device, numbered: the sums the device makes (12), then what it receives in
    the slots from 12 on (20). -/
def rowBlk (c : Fin 8) (t : Fin 32) : ℕ := if t.val < 12 then sumBlk c t.val else recvBlk c t

theorem rowBlk_lt (c : Fin 8) (t : Fin 32) : rowBlk c t < 32 := by revert c t; decide
theorem rowBlk_inj (c : Fin 8) (t t' : Fin 32) (h : rowBlk c t = rowBlk c t') : t = t' := by revert c t t'; decide
theorem rowBlk_surj (c : Fin 8) (b : Fin 32) : ∃ t : Fin 32, rowBlk c t = b.val := by revert c b; decide
theorem rowBlk_sum (c : Fin 8) (t : Fin 32) (h : t.val < 12) : rowBlk c t = sumBlk c t.val := if_pos h
theorem rowBlk_recv (c : Fin 8) (t : Fin 32) (h : 12 ≤ t.val) : rowBlk c t = recvBlk c t := if_neg (by omega)
theorem sumBlk_inj (c : Fin 8) (k k' : Fin 12) (h : sumBlk c k.val = sumBlk c k'.val) : k = k' := by revert c k k'; decide

/-! ## Tokens -/

/-- The kinds of token.  `sig`: the right to signal a neighbour; `bar` / `barred`: the wait for the neighbours, ahead
    / done; `tok`: the right to send a slot; `room`: the device's own landing area of a slot; `land`: the landing area
    at the neighbour; `src`: the block to be sent; `fly` / `sent`: the copy in flight / out; `due` / `met`: the copy
    the device expects / has received; `got`: the block received; `own`: the rows for a sum; `fin`: a finished sum
    that is not sent; `x`: the addends. -/
inductive Kind
  | sig | bar | barred | tok | room | land | src | fly | sent | due | met | got | own | fin | x
  deriving DecidableEq

instance : Fintype Kind where
  elems := {.sig, .bar, .barred, .tok, .room, .land, .src, .fly, .sent, .due, .met, .got, .own, .fin, .x}
  complete k := by cases k <;> decide

/-- The kind's number. -/
def Kind.num : Kind → ℕ
  | .sig => 0 | .bar => 1 | .barred => 2 | .tok => 3 | .room => 4 | .land => 5 | .src => 6 | .fly => 7
  | .sent => 8 | .due => 9 | .met => 10 | .got => 11 | .own => 12 | .fin => 13 | .x => 14

abbrev Token : Type := Kind × Fin 32

/-- The bit a token has in a state. -/
def code (a : Token) : ℕ := 32 * a.1.num + a.2.val

theorem code_inj {a b : Token} (h : code a = code b) : a = b := by
  obtain ⟨k, i⟩ := a
  obtain ⟨k', i'⟩ := b
  unfold code at h
  have hk : k.num = k'.num := by dsimp only at h; omega
  have hi : i = i' := Fin.ext (by dsimp only at h; omega)
  have : k = k' := by revert hk; cases k <;> cases k' <;> simp [Kind.num]
  rw [this, hi]

/-- The number whose bits are the tokens of a list. -/
def mask (l : List Token) : ℕ := l.foldr (fun a n => 2 ^ code a ||| n) 0

theorem testBit_mask (l : List Token) (a : Token) : (mask l).testBit (code a) = true ↔ a ∈ l := by
  induction l with
  | nil => simp [mask]
  | cons b l ih =>
    have h : mask (b :: l) = 2 ^ code b ||| mask l := rfl
    rw [h, Nat.testBit_or, Bool.or_eq_true, Nat.testBit_two_pow, ih, List.mem_cons, decide_eq_true_iff]
    exact or_congr_left ⟨fun h => code_inj h.symm, fun h => h ▸ rfl⟩

/-- The tokens of a state. -/
noncomputable def tokens (n : ℕ) : Finset Token := Finset.univ.filter fun a => n.testBit (code a) = true

theorem mem_tokens {n : ℕ} {a : Token} : a ∈ tokens n ↔ n.testBit (code a) = true := by
  unfold tokens; rw [Finset.mem_filter]; exact and_iff_right (Finset.mem_univ a)

theorem tokens_mask (l : List Token) : tokens (mask l) = l.toFinset := by
  ext a; rw [mem_tokens, testBit_mask, List.mem_toFinset]

/-- Tokens all present, in numbers. -/
theorem subset_of_and {n : ℕ} {l : List Token} (h : n &&& mask l = mask l) : l.toFinset ⊆ tokens n := fun a ha => by
  have h' := (testBit_mask l a).mpr (List.mem_toFinset.mp ha)
  rw [← h, Nat.testBit_and, Bool.and_eq_true] at h'
  exact mem_tokens.mpr h'.1

/-- Tokens all absent, in numbers. -/
theorem disjoint_of_and {n : ℕ} {l : List Token} (h : n &&& mask l = 0) : Disjoint (tokens n) l.toFinset :=
  Finset.disjoint_left.mpr fun a ha hl => by
    have h' := congrArg (fun n => n.testBit (code a)) h
    rw [Nat.testBit_and, mem_tokens.mp ha, (testBit_mask l a).mpr (List.mem_toFinset.mp hl), Nat.zero_testBit] at h'
    cases h'

/-- Taking tokens away. -/
theorem tokens_xor {n : ℕ} {l : List Token} (h : n &&& mask l = mask l) : tokens (n ^^^ mask l) = tokens n \ l.toFinset := by
  ext a
  have hs := @subset_of_and n l h a
  rw [Finset.mem_sdiff, mem_tokens, mem_tokens, Nat.testBit_xor, List.mem_toFinset]
  rw [List.mem_toFinset, mem_tokens] at hs
  by_cases hl : a ∈ l
  · rw [hs hl, (testBit_mask l a).mpr hl]; simp [hl]
  · have h0 : (mask l).testBit (code a) = false := by
      rw [Bool.eq_false_iff]; exact fun h => hl ((testBit_mask l a).mp h)
    rw [h0, Bool.xor_false]; simp [hl]

/-- Adding tokens. -/
theorem tokens_or (n : ℕ) (l : List Token) : tokens (n ||| mask l) = tokens n ∪ l.toFinset := by
  ext a
  rw [Finset.mem_union, mem_tokens, mem_tokens, Nat.testBit_or, Bool.or_eq_true, testBit_mask, List.mem_toFinset]

/-! ## Events -/

/-- One event of a device: signal the neighbour along an axis; wait for the three neighbours; start the copy of a
    slot; wait for the arrival of a slot; wait until the copy of a slot is out; make the `k`-th sum. -/
inductive Step
  | signal (a : Fin 3)
  | barrier
  | send (s : Fin 32)
  | recv (s : Fin 32)
  | done (s : Fin 32)
  | sum (k : Fin 12)
  deriving DecidableEq

/-- All slots. -/
noncomputable def slots : List (Fin 32) := List.finRange 32

/-- What has arrived in slot `s`, as a token: for four slots it is at once the block to be forwarded. -/
def arrival (s : Fin 32) : Token :=
  match s.val with
  | 24 => (.src, 28) | 25 => (.src, 29) | 18 => (.src, 30) | 19 => (.src, 31) | _ => (.got, s)

/-- Slots that carry the `k`-th sum along y and along z. -/
def slotY (k : Fin 12) : Fin 32 := ⟨12 + k.val, by omega⟩
def slotZ (k : Fin 12) : Fin 32 := ⟨20 + k.val, by omega⟩
/-- A sum's number as a token index. -/
def idx (k : Fin 12) : Fin 32 := ⟨k.val, by omega⟩

/-- A finished sum: the first eight are to be sent twice, the last four are not. -/
def summed (k : Fin 12) : List Token :=
  if k.val < 8 then [(.src, slotY k), (.src, slotZ k)] else [(.fin, idx k)]

/-- The tokens an event takes. -/
noncomputable def Step.pre : Step → List Token
  | .signal a => (.sig, ⟨a.val, by omega⟩) :: (slots.filter fun s => axis s = a).map (Prod.mk .room)
  | .barrier => [(.bar, 0)]
  | .send s => [(.tok, s), (.land, s), (.src, s)]
  | .recv s => [(.due, s)]
  | .done s => [(.fly, s)]
  | .sum k => [(.x, 0), (.got, idx k), (.own, idx k)]

/-- The tokens an event brings. -/
noncomputable def Step.post : Step → List Token
  | .signal _ => []
  | .barrier => (.barred, 0) :: slots.map (Prod.mk .land)
  | .send s => [(.fly, s)]
  | .recv s => [(.met, s), arrival s]
  | .done s => [(.sent, s), (.src, s)]
  | .sum k => (.x, 0) :: (.got, idx k) :: summed k

/-- The level of a slot's arrival: addends first, then sums, then forwarded sums. -/
def level (s : Fin 32) : ℕ := if s.val < 12 then 2 else if s.val < 28 then 3 else 4

/-- The level of what a token still owes to another device, 0 if it owes nothing. -/
def owing (a : Token) : ℕ :=
  match a.1 with
  | .sig => 1
  | .tok => level a.2
  | _ => 0

/-- Nothing an event brings owes anything. -/
theorem owing_post (t : Step) (a : Token) (h : a ∈ t.post) : owing a = 0 := by
  have harr : ∀ s, owing (arrival s) = 0 := by decide
  have hsum : ∀ k, ∀ a ∈ summed k, owing a = 0 := fun k a h => by
    unfold summed at h
    split_ifs at h <;> simp only [List.mem_cons, List.not_mem_nil, or_false] at h
    · rcases h with rfl | rfl <;> rfl
    · rw [h]; rfl
  cases t <;> simp only [Step.post, List.mem_cons, List.mem_map, List.not_mem_nil, or_false] at h
  case barrier =>
    rcases h with rfl | ⟨s, -, rfl⟩ <;> rfl
  case send => rw [h]; rfl
  case recv => rcases h with rfl | rfl; · rfl
               exact harr _
  case done => rcases h with rfl | rfl <;> rfl
  case sum => rcases h with rfl | rfl | h; · rfl
              · rfl
              exact hsum _ _ h

/-- The level an event waits at. -/
def Step.waits : Step → Option ℕ
  | .barrier => some 1
  | .recv s => some (level s)
  | .done _ => some 0
  | _ => none

/-- The tokens that owe something at level `l` or below. -/
noncomputable def lowTokens (l : ℕ) : List Token :=
  (if 1 ≤ l then slots.map (Prod.mk Kind.sig) else [])
    ++ (slots.filter fun s => level s ≤ l).map (Prod.mk Kind.tok)

theorem mem_lowTokens {l : ℕ} {a : Token} (h : 0 < owing a) (h' : owing a ≤ l) : a ∈ lowTokens l := by
  obtain ⟨k, i⟩ := a
  have hi : i ∈ slots := List.mem_finRange i
  unfold lowTokens
  rw [List.mem_append]
  cases k with
  | sig =>
    left
    have h1 : 1 ≤ l := h'
    rw [if_pos h1]
    exact List.mem_map.mpr ⟨i, hi, rfl⟩
  | tok =>
    right
    exact List.mem_map.mpr ⟨i, List.mem_filter.mpr ⟨hi, decide_eq_true h'⟩, rfl⟩
  | _ => exact absurd h (Nat.lt_irrefl 0)

/-! ## The sequence -/

/-- One device's events in order. -/
noncomputable def steps : List Step :=
  [.signal 0, .signal 1, .signal 2, .barrier]
  ++ ([0, 1, 2, 3, 4, 5, 6, 7, 8, 9, 10, 11].map Step.send)
  ++ (([0, 1, 2, 3, 4, 5, 6, 7] : List (Fin 12)).flatMap fun k => [.recv (idx k), .sum k, .send (slotY k), .send (slotZ k)])
  ++ [.recv 24, .send 28, .recv 25, .send 29, .recv 18, .send 30, .recv 19, .send 31]
  ++ (([8, 9, 10, 11] : List (Fin 12)).flatMap fun k => [.recv (idx k), .sum k])
  ++ ([12, 20, 13, 21, 14, 22, 15, 23, 16, 17, 26, 27, 28, 29, 30, 31].map Step.recv)
  ++ ([0, 1, 2, 3, 4, 5, 6, 7, 8, 9, 10, 11, 12, 20, 13, 21, 14, 22, 15, 23, 16, 24, 17, 25, 18, 26, 19, 27,
      28, 29, 30, 31].map Step.done)

/-- The first twelve slots. -/
noncomputable def low : List (Fin 32) := (List.finRange 12).map idx

/-- The tokens a device starts with. -/
noncomputable def initial : List Token :=
  [(.sig, 0), (.sig, 1), (.sig, 2), (.bar, 0), (.x, 0)]
  ++ (slots.map (Prod.mk .tok) ++ (slots.map (Prod.mk .room) ++ (slots.map (Prod.mk .due)
  ++ (low.map (Prod.mk .src) ++ low.map (Prod.mk .own)))))

/-- The tokens that make up the `t`-th block of the finished result. -/
def block (t : Fin 32) : List Token := if h : t.val < 12 then summed ⟨t.val, h⟩ else [arrival t]

/-- The tokens a device ends with. -/
noncomputable def final : List Token :=
  [(.barred, 0), (.x, 0)]
  ++ (low.map (Prod.mk .src) ++ (slots.map (Prod.mk .sent) ++ (slots.map (Prod.mk .met)
  ++ (low.map (Prod.mk .got) ++ slots.flatMap block))))

/-- The state after an event. -/
noncomputable def Step.next (t : Step) (n : ℕ) : ℕ := (n ^^^ mask t.pre) ||| mask t.post

/-- An event may happen in a state. -/
noncomputable def Step.ok (t : Step) (n : ℕ) : Bool :=
  (n &&& mask t.pre == mask t.pre) && ((n ^^^ mask t.pre) &&& mask t.post == 0)
    && decide t.pre.Nodup && decide t.post.Nodup
    && match t.waits with
      | some l => n &&& mask (lowTokens l) == 0
      | none => true

/-- All events of a list may happen, one after the other. -/
noncomputable def allOk : List Step → ℕ → Bool
  | [], _ => true
  | t :: l, n => t.ok n && allOk l (t.next n)

/-- The state after the first `k` events. -/
noncomputable def stateAt (k : ℕ) : ℕ := (steps.take k).foldl (fun n t => t.next n) (mask initial)

/-- The tokens after the first `k` events. -/
noncomputable def held (k : ℕ) : Finset Token := tokens (stateAt k)

set_option maxRecDepth 100000 in
/-- Every event of the sequence may happen when its turn comes. -/
theorem steps_ok : allOk steps (mask initial) = true := by decide +kernel

theorem steps_length : steps.length = 112 := by decide

theorem stateAt_succ {k : ℕ} {t : Step} (h : steps[k]? = some t) : stateAt (k + 1) = t.next (stateAt k) := by
  unfold stateAt
  rw [List.take_add_one, h, List.foldl_append]
  rfl

theorem ok_at_of (l : List Step) (n : ℕ) (h : allOk l n = true) (k : ℕ) {t : Step} (ht : l[k]? = some t) :
    t.ok ((l.take k).foldl (fun n t => t.next n) n) = true := by
  induction l generalizing n k with
  | nil => simp at ht
  | cons s l ih =>
    have h' : s.ok n = true ∧ allOk l (s.next n) = true := by
      have : (s.ok n && allOk l (s.next n)) = true := h
      exact (Bool.and_eq_true _ _).mp this
    cases k with
    | zero =>
      have : s = t := by simpa using ht
      exact this ▸ h'.1
    | succ k => exact ih (s.next n) h'.2 k (by simpa using ht)

theorem ok_at {k : ℕ} {t : Step} (h : steps[k]? = some t) : t.ok (stateAt k) = true :=
  ok_at_of steps _ steps_ok k h

section Facts

variable {k : ℕ} {t : Step} (h : steps[k]? = some t)

include h

theorem ok_parts : stateAt k &&& mask t.pre = mask t.pre ∧ (stateAt k ^^^ mask t.pre) &&& mask t.post = 0
    ∧ t.pre.Nodup ∧ t.post.Nodup ∧ (∀ l, t.waits = some l → stateAt k &&& mask (lowTokens l) = 0) := by
  have ho := ok_at h
  unfold Step.ok at ho
  simp only [Bool.and_eq_true, beq_iff_eq, decide_eq_true_eq] at ho
  obtain ⟨⟨⟨⟨h1, h2⟩, h3⟩, h4⟩, h5⟩ := ho
  refine ⟨h1, h2, h3, h4, fun l hl => ?_⟩
  rw [hl] at h5
  simpa using h5

/-- An event finds its tokens. -/
theorem pre_subset : t.pre.toFinset ⊆ held k := subset_of_and (ok_parts h).1

/-- What an event brings was not there. -/
theorem post_fresh : Disjoint (held k \ t.pre.toFinset) t.post.toFinset := by
  have := disjoint_of_and (ok_parts h).2.1
  rwa [tokens_xor (ok_parts h).1] at this

theorem pre_nodup : t.pre.Nodup := (ok_parts h).2.2.1
theorem post_nodup : t.post.Nodup := (ok_parts h).2.2.2.1

/-- The tokens after the event. -/
theorem held_succ : held (k + 1) = (held k \ t.pre.toFinset) ∪ t.post.toFinset := by
  unfold held
  rw [stateAt_succ h, Step.next, tokens_or, tokens_xor (ok_parts h).1]

/-- While a device waits at level `l`, everything it still owes is at a higher level. -/
theorem owing_above {l : ℕ} (hl : t.waits = some l) {a : Token} (ha : a ∈ held k) (ho : 0 < owing a) :
    l < owing a := by
  by_contra hn
  exact Finset.disjoint_left.mp (disjoint_of_and ((ok_parts h).2.2.2.2 l hl)) ha
    (List.mem_toFinset.mpr (mem_lowTokens ho (not_lt.mp hn)))

end Facts

/-! ## The two ends -/

theorem initial_nodup : initial.Nodup := by decide +kernel
theorem final_nodup : final.Nodup := by decide +kernel

/-- Before its first event a device has its initial tokens. -/
theorem held_zero : held 0 = initial.toFinset := tokens_mask initial

set_option maxRecDepth 100000 in
theorem stateAt_end : stateAt 112 = mask final := by decide +kernel

/-- After its last event a device has its final tokens. -/
theorem held_end : held 112 = final.toFinset := by
  unfold held; rw [stateAt_end, tokens_mask]

/-- In the end a device owes nothing. -/
theorem owing_final : ∀ a ∈ final, owing a = 0 := by decide +kernel

end Cert.Mesh
-- ==== Proof.KernelIdealCells.lean ====
/-
# Contents, cells and the schedule

What the three buffers of a device hold, piece by piece; the 65 semaphore cells of a device; and the schedule:
what each cell's one round hands to the device that waits there.

Everything is said for arbitrary addends `X` (the staged block of each device) and an arbitrary float instance.
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring.FamCut
public import Idealize.ShloMosaic.Lib.ValueLayout

@[expose] public section

noncomputable section

namespace Cert.KernelIdealProof

open Cert.KernelIdeal Cert.KernelIdeal.Gen
open Cert.Mesh (nb half quarter sumBlk axis sendBlk recvBlk owner Token level)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The ghost state of the cells: one duty per neighbour. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S1x1024x1024 .f32 := Memref.whole cc0_stg0_0
abbrev oM : Memref sig .tc .vmem S1024x512 .f32 := Memref.whole cc0_stg1_0
abbrev pM : Memref sig .tc .vmem S12x32x512 .f32 := Memref.whole cc0_scratch0

abbrev XBuf (F : FTy → Type) : Type := S1x1024x1024.Idx → Elt F .f32
abbrev OBuf (F : FTy → Type) : Type := S1024x512.Idx → Elt F .f32
abbrev PBuf (F : FTy → Type) : Type := S12x32x512.Idx → Elt F .f32

/-- Elements of the addends of device `c`, at a share. -/
def xPts (c : Dev nD) (I : Finset S1x1024x1024.Idx) (q : PosShare TreeShare) (f : XBuf F) : sProp 𝕄 :=
  ((c : Thread nD τ).loc cc0_stg0_0) ↦[I]{q} f
/-- Elements of the result of device `c`, at a share. -/
def oPts (c : Dev nD) (I : Finset S1024x512.Idx) (q : PosShare TreeShare) (f : OBuf F) : sProp 𝕄 :=
  ((c : Thread nD τ).loc cc0_stg1_0) ↦[I]{q} f
/-- Elements of the landing buffer of device `c`, outright. -/
def pPts (c : Dev nD) (I : Finset S12x32x512.Idx) (f : PBuf F) : sProp 𝕄 :=
  ((c : Thread nD τ).loc cc0_scratch0) ↦[I]{fullShare} f

/-! ## Pieces of the buffers -/

/-- 32 rows of the result. -/
def rows (b : ℕ) : Finset S1024x512.Idx := Finset.univ.filter fun i => (i 0).val / 32 = b
/-- One slab of the landing buffer. -/
def slab (k : ℕ) : Finset S12x32x512.Idx := Finset.univ.filter fun i => (i 0).val = k
/-- 32 rows of one column half of the addends. -/
def xpart (b h : ℕ) : Finset S1x1024x1024.Idx := Finset.univ.filter fun i => (i 1).val / 32 = b ∧ (i 2).val / 512 = h
/-- The part of its addends that device `c` sends in slot `s`, one of the first twelve. -/
def xSend (c : Dev nD) (k : Fin 12) : Finset S1x1024x1024.Idx := xpart (sumBlk c k.val) (1 - half c)
/-- What is left of the addends when these parts are away. -/
def xRest (c : Dev nD) : Finset S1x1024x1024.Idx := Finset.univ \ Finset.univ.biUnion (xSend c)

theorem mem_rows {b : ℕ} {i : S1024x512.Idx} : i ∈ rows b ↔ (i 0).val / 32 = b := by simp [rows]
theorem mem_slab {k : ℕ} {i : S12x32x512.Idx} : i ∈ slab k ↔ (i 0).val = k := by simp [slab]
theorem mem_xpart {b h : ℕ} {i : S1x1024x1024.Idx} : i ∈ xpart b h ↔ (i 1).val / 32 = b ∧ (i 2).val / 512 = h := by
  simp [xpart]

/-! ## Contents -/

/-- An index of the addends from its row and column. -/
def at3 (r c : ℕ) : S1x1024x1024.Idx :=
  ix3 (⟨0, Nat.one_pos⟩ : Fin 1) (⟨r % 1024, Nat.mod_lt _ (by decide)⟩ : Fin 1024) (⟨c % 1024, Nat.mod_lt _ (by decide)⟩ : Fin 1024)

/-- Two indices of the addends with the same row and column are one. -/
theorem eq_at3 {i : S1x1024x1024.Idx} {r c : ℕ} (hr : (i 1).val = r) (hc : (i 2).val = c) : i = at3 r c := by
  funext a
  match a with
  | ⟨0, h⟩ => have : (i ⟨0, h⟩).val < 1 := (i ⟨0, h⟩).isLt; exact Fin.ext (by change (i ⟨0, h⟩).val = 0; omega)
  | ⟨1, h⟩ =>
    have : (i 1).val < 1024 := (i 1).isLt
    exact Fin.ext (by change (i 1).val = r % 1024; omega)
  | ⟨2, h⟩ =>
    have : (i 2).val < 1024 := (i 2).isLt
    exact Fin.ext (by change (i 2).val = c % 1024; omega)

variable (X : Dev nD → XBuf F)

/-- What the landing buffer of device `c` holds once everything has arrived: slab `k` the addends of the neighbour along
    x for `c`'s `k`-th sum, in `c`'s columns. -/
def landed (c : Dev nD) : PBuf F := fun i => X (nb 0 c) (at3 (32 * sumBlk c (i 0).val + (i 1).val) (512 * half c + (i 2).val))

/-- The sum of device `c`'s and its x-neighbour's addends, in `c`'s columns. -/
def sums (c : Dev nD) : OBuf F := fun i =>
  FloatOps.addf (X c (at3 (i 0).val (512 * half c + (i 1).val))) (X (nb 0 c) (at3 (i 0).val (512 * half c + (i 1).val)))

/-- The result on device `c`: every row from the device that added it up. -/
def result (c : Dev nD) : OBuf F := fun i => sums X (owner c ((i 0).val / 32)) i

/-! ## What a slot moves -/

/-- The share at which slot `s` reads its source: a finished sum is read by two copies at once. -/
def shareOf (s : Fin 32) : PosShare TreeShare :=
  if s.val < 12 then fullShare else if s.val < 20 then fullShare.left else if s.val < 28 then fullShare.right else fullShare

/-- The source of slot `s` on device `c`. -/
def srcPts (c : Dev nD) (s : Fin 32) : sProp 𝕄 :=
  if h : s.val < 12 then xPts c (xSend c ⟨s.val, h⟩) fullShare (X c) else oPts c (rows (sendBlk c s)) (shareOf s) (result X c)

/-- What has arrived on device `c` in slot `s`. -/
def gotPts (c : Dev nD) (s : Fin 32) : sProp 𝕄 :=
  if s.val < 12 then pPts c (slab s.val) (landed X c) else oPts c (rows (recvBlk c s)) fullShare (result X c)

/-- The landing area of slot `s` on device `c`, at whatever contents. -/
def roomPts (c : Dev nD) (s : Fin 32) : sProp 𝕄 :=
  if s.val < 12 then iprop(∃ f, pPts (F := F) c (slab s.val) f) else iprop(∃ f, oPts (F := F) c (rows (recvBlk c s)) fullShare f)

instance srcPts_storable (c : Dev nD) (s : Fin 32) : BI.Storable (upEmb : UEmb _ 𝕄) (srcPts X c s) := by
  unfold srcPts xPts oPts; split <;> infer_instance
instance gotPts_storable (c : Dev nD) (s : Fin 32) : BI.Storable (upEmb : UEmb _ 𝕄) (gotPts X c s) := by
  unfold gotPts pPts oPts; split <;> infer_instance
instance roomPts_storable (c : Dev nD) (s : Fin 32) : BI.Storable (upEmb : UEmb _ 𝕄) (roomPts (F := F) c s) := by
  unfold roomPts pPts oPts; split <;> infer_instance

/-- What a device's signal hands its neighbour along axis `a`: its own landing areas of the slots sent along `a`. -/
def roomsPts (c : Dev nD) (a : Fin 3) : sProp 𝕄 :=
  bigSep (Finset.univ.filter fun s : Fin 32 => axis s = a) (fun s => roomPts (F := F) c s)

instance roomsPts_storable (c : Dev nD) (a : Fin 3) : BI.Storable (upEmb : UEmb _ 𝕄) (roomsPts (F := F) c a) := by
  unfold roomsPts; infer_instance

/-! ## The cells -/

/-- The runtime's barrier semaphore. -/
abbrev barS : Sem sig := (SemArray.scalar (sig.barrier 0 rfl) : Sems sig S_).sem
/-- The semaphores of slot `s`. -/
abbrev sendS (s : Fin 32) : DmaSem sig := ⟨2 + s.val, by have := s.isLt; show 2 + s.val < 66; omega⟩
abbrev recvS (s : Fin 32) : DmaSem sig := ⟨34 + s.val, by have := s.isLt; show 34 + s.val < 66; omega⟩

abbrev barCell (c : Dev nD) : GSem nD τ sig := ((c : Thread nD τ), .reg barS)
abbrev sendCell (c : Dev nD) (s : Fin 32) : GSem nD τ sig := ((c : Thread nD τ), .dma (sendS s))
abbrev recvCell (c : Dev nD) (s : Fin 32) : GSem nD τ sig := ((c : Thread nD τ), .dma (recvS s))

/-- What a cell is for: the barrier (`none`), the sends (`false`) or the arrivals (`true`) of a slot. -/
abbrev Role : Type := Option (Bool × Fin 32)

/-- The semaphore with a given purpose. -/
def semOf : Role → SemLoc sig
  | none => .reg barS
  | some (false, s) => .dma (sendS s)
  | some (true, s) => .dma (recvS s)

/-- A semaphore's purpose; the two that stage the arrays have none. -/
def roleOf : SemLoc sig → Option Role
  | .reg r => if r = barS then some none else none
  | .dma i => if h : i.val < 2 then none
      else if i.val < 34 then some (some (false, ⟨(i.val - 2) % 32, Nat.mod_lt _ (by decide)⟩))
      else some (some (true, ⟨(i.val - 34) % 32, Nat.mod_lt _ (by decide)⟩))

theorem roleOf_bar : roleOf (.reg barS) = some none := by decide
theorem roleOf_send (s : Fin 32) : roleOf (.dma (sendS s)) = some (some (false, s)) := by revert s; decide
theorem roleOf_recv (s : Fin 32) : roleOf (.dma (recvS s)) = some (some (true, s)) := by revert s; decide

theorem roleOf_semOf (r : Role) : roleOf (semOf r) = some r :=
  match r with
  | none => roleOf_bar
  | some (false, s) => roleOf_send s
  | some (true, s) => roleOf_recv s

/-- The cell of device `c` with a given purpose. -/
abbrev kcell (cr : Dev nD × Role) : GSem nD τ sig := ((cr.1 : Thread nD τ), semOf cr.2)

theorem kcell_injective : Function.Injective kcell := fun a b h => by
  have h1 : a.1 = b.1 := congrArg (fun g => g.1.1) h
  have h2 : some a.2 = some b.2 := by rw [← roleOf_semOf, ← roleOf_semOf]; exact congrArg (fun g => roleOf g.2) h
  exact Prod.ext h1 (Option.some.inj h2)

/-- The credit of one copy: 32 × 512 floats. -/
abbrev N : ℕ := ((oM.slice (Rect.unit (s := S1024x512) ![0, 0] S32x512.size (by decide)) (fun _ => rfl) : Memref sig .tc .vmem S32x512 .f32)).view.dmaCredit
theorem N_pos : 0 < N := View.dmaCredit_pos _ (by decide)

/-! ## The schedule -/

/-- Every cell has one round. The barrier cell has a unit duty for each neighbour, which hands over that neighbour's
    landing areas; a send cell hands back the source, an arrival cell hands over what arrived. -/
def rd : Rounds.Schedule (GSem nD τ sig) (Fin 3) 𝕄 where
  duties g r := if r = 0 ∧ g.1.2 = .tc then
      (match roleOf g.2 with
        | none => ∅
        | some none => Finset.univ
        | some (some _) => {0})
    else ∅
  unitless _ := False
  amount g _ _ := if roleOf g.2 = some none then 1 else N
  payload g _ d := match roleOf g.2 with
    | none => iprop(emp)
    | some none => roomsPts (nb d g.1.1) d
    | some (some (false, s)) => srcPts X g.1.1 s
    | some (some (true, s)) => gotPts X g.1.1 s
  amount_pos g _ _ _ := by
    by_cases h : roleOf g.2 = some none
    · rw [if_pos h]; exact Nat.one_pos
    · rw [if_neg h]; exact N_pos

instance rd_payload_storable (g : GSem nD τ sig) (r : ℕ) (d : Fin 3) :
    BI.Storable (upEmb : UEmb _ 𝕄) ((rd X).payload g r d) := by
  dsimp only [rd]
  split <;> infer_instance

section Sched

variable (c : Dev nD) (s : Fin 32) (d : Fin 3)

theorem duties_bar : (rd X).duties (barCell c) 0 = Finset.univ := by
  dsimp only [rd]; rw [roleOf_bar]; exact if_pos ⟨rfl, rfl⟩
theorem duties_send : (rd X).duties (sendCell c s) 0 = {0} := by
  dsimp only [rd]; rw [roleOf_send]; exact if_pos ⟨rfl, rfl⟩
theorem duties_recv : (rd X).duties (recvCell c s) 0 = {0} := by
  dsimp only [rd]; rw [roleOf_recv]; exact if_pos ⟨rfl, rfl⟩
theorem duties_later (g : GSem nD τ sig) (r : ℕ) (h : 1 ≤ r) : (rd X).duties g r = ∅ := by
  dsimp only [rd]; rw [if_neg fun h' => by omega]

theorem amount_bar : (rd X).amount (barCell c) 0 d = 1 := by dsimp only [rd]; rw [roleOf_bar]; exact if_pos rfl
theorem amount_send : (rd X).amount (sendCell c s) 0 d = N := by
  dsimp only [rd]; rw [roleOf_send]; exact if_neg fun h => by cases h
theorem amount_recv : (rd X).amount (recvCell c s) 0 d = N := by
  dsimp only [rd]; rw [roleOf_recv]; exact if_neg fun h => by cases h

theorem expect_bar : (rd X).expect (barCell c) 0 = 3 := by
  unfold Schedule.expect Schedule.amountOf
  rw [duties_bar, Finset.sum_congr rfl fun d _ => amount_bar X c d]; rfl
theorem expect_send : (rd X).expect (sendCell c s) 0 = N := by
  unfold Schedule.expect Schedule.amountOf; rw [duties_send, Finset.sum_singleton, amount_send]
theorem expect_recv : (rd X).expect (recvCell c s) 0 = N := by
  unfold Schedule.expect Schedule.amountOf; rw [duties_recv, Finset.sum_singleton, amount_recv]

theorem payload_bar : (rd X).payload (barCell c) 0 d = roomsPts (nb d c) d := by dsimp only [rd]; rw [roleOf_bar]
theorem payload_send : (rd X).payload (sendCell c s) 0 d = srcPts X c s := by dsimp only [rd]; rw [roleOf_send]
theorem payload_recv : (rd X).payload (recvCell c s) 0 d = gotPts X c s := by dsimp only [rd]; rw [roleOf_recv]

/-- A send cell's round hands over the source. -/
theorem rest_send : bigSep ((rd X).duties (sendCell c s) 0 \ ∅) (fun d => (rd X).payload (sendCell c s) 0 d) = srcPts X c s := by
  rw [Finset.sdiff_empty, duties_send, bigSep_singleton, payload_send]
/-- An arrival cell's round hands over what arrived. -/
theorem rest_recv : bigSep ((rd X).duties (recvCell c s) 0 \ ∅) (fun d => (rd X).payload (recvCell c s) 0 d) = gotPts X c s := by
  rw [Finset.sdiff_empty, duties_recv, bigSep_singleton, payload_recv]

/-- The barrier's round hands over the landing area, at the neighbour along its axis, of every slot. -/
theorem rest_bar : bigSep ((rd X).duties (barCell c) 0 \ ∅) (fun d => (rd X).payload (barCell c) 0 d)
    = bigSep Finset.univ (fun s : Fin 32 => roomPts (F := F) (nb (axis s) c) s) := by
  rw [Finset.sdiff_empty, duties_bar,
    show (Finset.univ : Finset (Fin 32)) = Finset.univ.biUnion (fun a : Fin 3 => Finset.univ.filter fun s : Fin 32 => axis s = a) from by
      ext s; simp,
    bigSep_biUnion_eq]
  · refine bigSep_congr fun a _ => ?_
    rw [payload_bar]
    unfold roomsPts
    exact bigSep_congr fun s hs => by rw [(Finset.mem_filter.mp hs).2]
  · intro a _ b _ hab
    exact Finset.disjoint_left.mpr fun s hs ht => hab ((Finset.mem_filter.mp hs).2.symm.trans (Finset.mem_filter.mp ht).2)

end Sched

/-! ## Levels -/

/-- Every cell of a TensorCore has a level. -/
def L (g : GSem nD τ sig) : Finset Unit := if g.1.2 = .tc then {()} else ∅
/-- Barrier cells at 1, arrivals at their slot's level, everything else at 0. -/
def lv (g : GSem nD τ sig) (_ : Unit) : ℕ := match roleOf g.2 with
  | some none => 1
  | some (some (true, s)) => level s
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [roleOf_bar]
theorem lv_send (c : Dev nD) (s : Fin 32) : lv (sendCell c s) () = 0 := by dsimp only [lv]; rw [roleOf_send]
theorem lv_recv (c : Dev nD) (s : Fin 32) : lv (recvCell c s) () = level s := by dsimp only [lv]; rw [roleOf_recv]

end Cert.KernelIdealProof

end
-- ==== Proof.KernelIdealState.lean ====
/-
# What a device has, event by event

The meaning of the tokens of `Mesh`: which resource of device `c` each of them stands for, and what it still owes to
others by it.  `SS X K c k` is all a device has after its first `k` events.  Then one lemma for each kind of event
that moves no data of its own: the signals, the wait at the barrier, the two waits of a copy.
-/
module

public import proofs.«01_k».proof.Proof.KernelIdealCells
public import Idealize.ShloMosaic.Lib.Pipeline.BigSepL

@[expose] public section

noncomputable section

namespace Cert.KernelIdealProof

open Cert.KernelIdeal Cert.KernelIdeal.Gen
open Cert.Mesh (nb half quarter sumBlk axis sendBlk recvBlk owner Token level steps held Step owing arrival slots)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XBuf F)

/-- A token's index as an axis. -/
def axisIx (i : Fin 32) : Fin 3 := ⟨i.val % 3, Nat.mod_lt _ (by decide)⟩

/-- What a token of device `c` stands for. -/
def res (c : Dev nD) (a : Token) : sProp 𝕄 :=
  match a.1 with
  | .sig => dutyTok ER (barCell (nb (axisIx a.2) c)) 0 (axisIx a.2)
  | .bar => iprop(cred (tallyAt (barCell c) () 3) ∗ atPos ER (barCell c) 0 ∅ 0)
  | .barred => atPos ER (barCell c) 1 ∅ 0
  | .tok => iprop(dutyTok ER (sendCell c a.2) 0 0 ∗ dutyTok ER (recvCell (nb (axis a.2) c) a.2) 0 0 ∗ atPos ER (sendCell c a.2) 0 ∅ 0)
  | .room => roomPts (F := F) c a.2
  | .land => roomPts (F := F) (nb (axis a.2) c) a.2
  | .src => srcPts X c a.2
  | .fly => iprop(cred (tallyAt (sendCell c a.2) () N) ∗ atPos ER (sendCell c a.2) 0 ∅ 0)
  | .sent => atPos ER (sendCell c a.2) 1 ∅ 0
  | .due => iprop(cred (tallyAt (recvCell c a.2) () N) ∗ atPos ER (recvCell c a.2) 0 ∅ 0)
  | .met => atPos ER (recvCell c a.2) 1 ∅ 0
  | .got => gotPts X c a.2
  | .own => iprop(∃ f, oPts (F := F) c (rows (sumBlk c a.2.val)) fullShare f)
  | .fin => oPts c (rows (sumBlk c a.2.val)) fullShare (result X c)
  | .x => xPts c (xRest c) fullShare (X c)

/-- What device `c` owes others by a token: a signal, or the arrival of a copy. -/
def owe (c : Dev nD) (a : Token) : CellTallies nD τ sig Unit :=
  match a.1 with
  | .sig => tallyAt (barCell (nb (axisIx a.2) c)) () 1
  | .tok => tallyAt (recvCell (nb (axis a.2) c) a.2) () N
  | _ => 0

/-- The resources of a set of tokens. -/
def St (c : Dev nD) (T : Finset Token) : sProp 𝕄 := bigSep T (res X c)
/-- What is owed by a set of tokens. -/
def Ow (c : Dev nD) (T : Finset Token) : CellTallies nD τ sig Unit := ∑ a ∈ T, owe c a

/-- Every cell's invariant, and that its round 0 has been reached. -/
def recs (K : Dev nD × Role → ℕ) : sProp 𝕄 :=
  bigSep Finset.univ fun cr : Dev nD × Role => iprop(cellInv ER (rd X) (K cr) (kcell cr) ∗ reached ER (kcell cr) 0)

instance recs_persistent (K : Dev nD × Role → ℕ) : BI.Persistent (recs X K) := by unfold recs; infer_instance

/-- All a device has after its first `k` events. -/
def SS (K : Dev nD × Role → ℕ) (c : Dev nD) (k : ℕ) : sProp 𝕄 :=
  iprop(recs X K ∗ levAts L lv ∗ St X c (held k) ∗ ∃ W, owes (c : Thread nD τ) (Ow c (held k)) W)

abbrev 𝒱₀ : Variants := Variants.none

/-- The program `p` on device `c` runs to its end and leaves `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem rec_of (K : Dev nD × Role → ℕ) (cr : Dev nD × Role) :
    recs X K ⊢ iprop(cellInv ER (rd X) (K cr) (kcell cr) ∗ reached ER (kcell cr) 0) :=
  bigSep_elim (Finset.mem_univ cr)

theorem owe_zero (c : Dev nD) (a : Token) (h : owing a = 0) : owe c a = 0 := by
  obtain ⟨k, i⟩ := a
  cases k
  case sig => cases h
  case tok =>
    have h' : level i = 0 := h
    unfold level at h'
    split_ifs at h'
  all_goals rfl

theorem owe_sum_zero (c : Dev nD) (l : List Token) (h : ∀ a ∈ l, owing a = 0) : (l.map (owe c)).sum = 0 :=
  List.sum_eq_zero fun x hx => by
    obtain ⟨a, ha, rfl⟩ := List.mem_map.mp hx
    exact owe_zero c a (h a ha)

/-! ## Tokens and owings along an event -/

section Along

variable {X} {k : ℕ} {t : Step} (h : steps[k]? = some t) (c : Dev nD)

include h

/-- Before an event: its tokens and the others. -/
theorem St_take : St X c (held k) = iprop(bigSepL t.pre (res X c) ∗ St X c (held k \ t.pre.toFinset)) := by
  unfold St
  rw [← bigSep_eq_bigSepL t.pre (Mesh.pre_nodup h)]
  exact bigSep_sdiff_split (Mesh.pre_subset h)

/-- After an event: what it brings and the others. -/
theorem St_put : St X c (held (k + 1)) = iprop(St X c (held k \ t.pre.toFinset) ∗ bigSepL t.post (res X c)) := by
  unfold St
  rw [← bigSep_eq_bigSepL t.post (Mesh.post_nodup h), Mesh.held_succ h]
  exact bigSep_union (Mesh.post_fresh h)

/-- What is owed before an event, against what is owed after it. -/
theorem Ow_step :
    Ow c (held k) = Ow c (held (k + 1)) + (t.pre.map (owe c)).sum := by
  unfold Ow
  rw [Mesh.held_succ h, Finset.sum_union (Mesh.post_fresh h), List.sum_toFinset _ (Mesh.post_nodup h), owe_sum_zero c _ (Mesh.owing_post t), add_zero,
    ← List.sum_toFinset _ (Mesh.pre_nodup h), Finset.sum_sdiff (Mesh.pre_subset h)]

/-- An event as a whole: it runs from what it takes, owing what is owed before it, to what it brings, owing what is
    owed after it. -/
theorem step_of (K : Dev nD × Role → ℕ) {P R : sProp 𝕄} (hpre : bigSepL t.pre (res X c) ⊢ P) (hpost : R ⊢ bigSepL t.post (res X c))
    {G G' : sProp 𝕄} (hk : SS X K c (k + 1) ⊢ G')
    (hstep : ∀ W, iprop(recs X K ∗ levAts L lv ∗ P ∗ owes (c : Thread nD τ) (Ow c (held k)) W)
      ⊢ iprop((∀ W', iprop(R ∗ owes (c : Thread nD τ) (Ow c (held (k + 1))) W') -∗ G') -∗ G)) :
    SS X K c k ⊢ G := by
  unfold SS at hk ⊢
  rw [St_take h]
  rw [St_put h] at hk
  iintro ⟨#HR, #HL, ⟨HP, HS⟩, ⟨%W, HO⟩⟩
  ihave HP := hpre $$ HP
  iapply (hstep W) $$ [HP HO]
  · isplitr; · iexact HR
    isplitr; · iexact HL
    isplitl [HP] <;> iassumption
  iintro %W' ⟨Hr, HO⟩
  iapply hk
  isplitr; · iexact HR
  isplitr; · iexact HL
  isplitr [HO]
  · isplitl [HS]; · iexact HS
    iapply hpost; iexact Hr
  iexists W'; iexact HO

end Along

/-- What is owed by a token is owed to a cell of the token's level. -/
theorem owe_pos {c : Dev nD} {a : Token} {g : GSem nD τ sig} {u : Unit} (h : 0 < owe c a g u) :
    g.1.2 = .tc ∧ lv g u = owing a ∧ 0 < owing a := by
  obtain ⟨k, i⟩ := a
  cases k
  case sig =>
    have h' : 0 < tallyAt (barCell (nb (axisIx i) c)) () 1 g u := h
    rw [tallyAt_apply] at h'
    by_cases hg : g = barCell (nb (axisIx i) c) ∧ u = ()
    · rw [hg.1]; exact ⟨rfl, lv_bar _, Nat.one_pos⟩
    · rw [if_neg hg] at h'; exact absurd h' (Nat.lt_irrefl 0)
  case tok =>
    have h' : 0 < tallyAt (recvCell (nb (axis i) c) i) () N g u := h
    rw [tallyAt_apply] at h'
    by_cases hg : g = recvCell (nb (axis i) c) i ∧ u = ()
    · rw [hg.1]
      refine ⟨rfl, lv_recv _ _, ?_⟩
      show 0 < level i
      unfold level; split_ifs <;> decide
    · rw [if_neg hg] at h'; exact absurd h' (Nat.lt_irrefl 0)
  all_goals exact absurd h (Nat.lt_irrefl 0)

theorem Ow_pos {c : Dev nD} {T : Finset Token} {g : GSem nD τ sig} {u : Unit} (h : 0 < Ow c T g u) :
    ∃ a ∈ T, 0 < owe c a g u := by
  unfold Ow at h
  rw [Finset.sum_apply, Finsupp.finset_sum_apply] at h
  obtain ⟨a, ha, hne⟩ := Finset.exists_ne_zero_of_sum_ne_zero (Nat.pos_iff_ne_zero.mp h)
  exact ⟨a, ha, Nat.pos_of_ne_zero hne⟩

/-- An event that waits may wait: all the device owes is at a higher level. -/
theorem mayWait {k l : ℕ} {t : Step} (h : steps[k]? = some t) (hl : t.waits = some l) (c : Dev nD) (sm : SemLoc sig)
    (hlv : lv ((c : Thread nD τ), sm) () = l) :
    (levAts L lv : sProp 𝕄) ⊢ MayWait (c : Thread nD τ) sm () (Ow c (held k)) := by
  refine MayOwe.of_cut (L := L) (lev := lv) l (fun p hp => by rw [Finset.mem_singleton.mp hp, L_tc]; exact Finset.mem_singleton_self _)
    (fun g u hg => ?_) (fun p hp => by rw [Finset.mem_singleton.mp hp]; exact le_of_eq hlv) (fun g u hg => ?_)
  · obtain ⟨a, ha, hp⟩ := Ow_pos hg
    unfold L; rw [if_pos (owe_pos hp).1]; exact Finset.mem_singleton_self _
  · obtain ⟨a, ha, hp⟩ := Ow_pos hg
    rw [(owe_pos hp).2.1]
    exact Mesh.owing_above h hl ha (owe_pos hp).2.2

/-! ## The events that move no data -/

section Events

variable (K : Dev nD × Role → ℕ) (c : Dev nD) {k : ℕ}

/-- A signal to the neighbour along an axis. -/
theorem step_signal {α : Type} {Q : α → sProp 𝕄} {kont : PUnit → Prog (TpuEff nD τ sig (Elt F) Λ₀ .tc) α}
    {a : Fin 3} (h : steps[k]? = some (.signal a)) {n : Dev nD} (hn : n = nb a c)
    (hk : SS X K c (k + 1) ⊢ Runs c (kont ⟨⟩) Q) :
    SS X K c k ⊢ Runs c (.op (.semSignal (Dev.tc n) barS 1) kont) Q := by
  subst hn
  have ha : axisIx ⟨a.val, by omega⟩ = a := Fin.ext (Nat.mod_eq_of_lt a.isLt)
  have hpre : bigSepL (Step.signal a).pre (res X c)
      = iprop(dutyTok ER (barCell (nb a c)) 0 a ∗ roomsPts (F := F) c a) := by
    unfold Step.pre roomsPts
    rw [bigSepL_cons, bigSepL_map, show (Finset.univ.filter fun s : Fin 32 => axis s = a) = (slots.filter fun s => axis s = a).toFinset from by
      ext s; simp [slots], bigSep_eq_bigSepL (slots.filter fun s => axis s = a) ((List.nodup_finRange 32).filter _)]
    show iprop(dutyTok ER (barCell (nb (axisIx ⟨a.val, _⟩) c)) 0 (axisIx ⟨a.val, _⟩) ∗ _) = _
    rw [ha]; rfl
  have hO : Ow c (held k) = Ow c (held (k + 1)) + tallyAt (barCell (nb a c)) () 1 := by
    rw [Ow_step h c]
    congr 1
    unfold Step.pre
    rw [List.map_cons, List.sum_cons, owe_sum_zero c _ (fun a ha => by obtain ⟨s, -, rfl⟩ := List.mem_map.mp ha; rfl), add_zero]
    show tallyAt (barCell (nb (axisIx ⟨a.val, _⟩) c)) () 1 = _
    rw [ha]
  refine step_of h c K (Entails.of_eq hpre) (R := iprop(emp)) (Entails.refl _) hk fun W => ?_
  iintro ⟨#HR, #HL, ⟨Ht, Hr⟩, HO⟩ Hk
  ihave #Hc := (rec_of X K (nb a c, none)) $$ HR
  icases Hc with ⟨#Hi, #Hre⟩
  iapply (Rounds.wp_signal 𝒱₀ ER (rd X) (c : Thread nD τ) none (dst := (nb a c : Thread nD τ)) (κ := K (nb a c, none))
      (d := a) (by rw [duties_bar]; exact Finset.mem_univ _) (amount_bar X (nb a c) a) () _ hO) $$ [HO Ht Hr]
  · isplitr; · iexact Hi
    isplitl [HO]; · iexact HO
    isplitl [Ht]; · iexact Ht
    isplitl [Hr]; · rw [payload_bar, Mesh.nb_nb]; iexact Hr
    iexact Hre
  iintro HO
  iapply Hk
  isplitr; · iempintro
  iexact HO

/-- The wait for the three neighbours. -/
theorem step_barrier {α : Type} {Q : α → sProp 𝕄} {kont : PUnit → Prog (TpuEff nD τ sig (Elt F) Λ₀ .tc) α}
    (h : steps[k]? = some .barrier) (hk : SS X K c (k + 1) ⊢ Runs c (kont ⟨⟩) Q) :
    SS X K c k ⊢ Runs c (.op (.semWait barS 3) kont) Q := by
  have hO : Ow c (held k) = Ow c (held (k + 1)) := by
    rw [Ow_step h c, owe_sum_zero c _ (fun a ha => by rw [List.mem_singleton.mp ha]; rfl), add_zero]
  refine step_of h c K (Entails.refl _) (R := iprop(atPos ER (barCell c) 1 ∅ 0 ∗ bigSep Finset.univ fun s : Fin 32 => roomPts (F := F) (nb (axis s) c) s))
    (Entails.of_eq ?_) hk fun W => ?_
  · unfold Step.post
    rw [bigSepL_cons, bigSepL_map, bigSep_univ_eq_bigSepL slots (by ext s; simp [slots]) (List.nodup_finRange 32)]
    rfl
  show iprop(recs X K ∗ levAts L lv ∗ (cred (tallyAt (barCell c) () 3) ∗ atPos ER (barCell c) 0 ∅ 0) ∗ _) ⊢ _
  iintro ⟨#HR, #HL, ⟨Hc, Ha⟩, HO⟩ Hk
  ihave #Hr := (rec_of X K (c, none)) $$ HR
  icases Hr with ⟨#Hi, #Hre⟩
  iapply (Rounds.wp_wait_rest_token 𝒱₀ ER (rd X) (c : Thread nD τ) none (κ := K (c, none))
      (wpE_semWait_eq 𝒱₀ (c : Thread nD τ) none Set.univ) (Set.mem_univ _) () (O := Ow c (held k)) (W := W) (R := 0) (m := 0) (T := ∅)
      (by rw [expect_bar])) $$ [Hc HO Ha]
  · isplitr; · iexact Hi
    isplitl [Hc]; · iexact Hc
    isplitl [HO]; · iexact HO
    isplitr; · iapply (mayWait h rfl c _ (lv_bar c)); iexact HL
    iexact Ha
  iintro ⟨HO, Ha, -, Hp⟩
  ihave Hp := (Entails.of_eq (rest_bar X c)) $$ Hp
  iapply Hk
  rw [← hO]
  isplitr [HO]
  · isplitl [Ha]; · iexact Ha
    iexact Hp
  iexact HO

/-- What has arrived in a slot, as the token it becomes. -/
theorem got_arrival (s : Fin 32) : gotPts X c s = res X c (arrival s) := by
  have key : ∀ s : Fin 32, arrival s = (.got, s) ∨ (∃ s' : Fin 32, arrival s = (.src, s') ∧ 28 ≤ s'.val ∧ Mesh.fwdOf s' = s) := by decide
  rcases key s with h | ⟨s', h, h28, rfl⟩
  · rw [h]; rfl
  · rw [h]
    show gotPts X c _ = srcPts X c s'
    have h12 : ∀ s' : Fin 32, 28 ≤ s'.val → ¬ (Mesh.fwdOf s').val < 12 := by decide
    unfold gotPts srcPts shareOf
    rw [if_neg (h12 s' h28), dif_neg (by omega), if_neg (by omega), if_neg (by omega), if_neg (by omega), Mesh.recvBlk_fwdOf c s' h28]

/-- A finished sum, as the tokens it becomes. -/
theorem summed_eq (j : Fin 12) : bigSepL (Mesh.summed j) (res X c) = oPts c (rows (sumBlk c j.val)) fullShare (result X c) := by
  have hlt := j.isLt
  unfold Mesh.summed
  by_cases h8 : j.val < 8
  · have hY : res X c (.src, Mesh.slotY j) = oPts c (rows (sumBlk c j.val)) fullShare.left (result X c) := by
      show srcPts X c (Mesh.slotY j) = _
      have hv : (Mesh.slotY j).val = 12 + j.val := rfl
      unfold srcPts shareOf
      rw [dif_neg (by omega), if_neg (by omega), if_pos (by omega), Mesh.sendBlk_sum c _ (by omega), hv,
        show (12 + j.val - 12) % 8 = j.val by omega]
    have hZ : res X c (.src, Mesh.slotZ j) = oPts c (rows (sumBlk c j.val)) fullShare.right (result X c) := by
      show srcPts X c (Mesh.slotZ j) = _
      have hv : (Mesh.slotZ j).val = 20 + j.val := rfl
      unfold srcPts shareOf
      rw [dif_neg (by omega), if_neg (by omega), if_neg (by omega), if_pos (by omega), Mesh.sendBlk_sum c _ (by omega), hv,
        show (20 + j.val - 12) % 8 = j.val by omega]
    rw [if_pos h8, bigSepL_cons, bigSepL_singleton, hY, hZ]
    have hs := pointsTo_share (Ix := Unit) (Name := ℕ) (U := UU) (Lvl := ℕ) (ℓ := (c : Thread nD τ).loc cc0_stg1_0) (I := rows (sumBlk c j.val))
      (f := result X c) (PosShare.mem_left_op_right fullShare)
    exact Entails.antisymm hs.2 hs.1
  · rw [if_neg h8, bigSepL_singleton]
    rfl

/-- The wait for the arrival of a slot. -/
theorem step_recv {α : Type} {Q : α → sProp 𝕄} {kont : PUnit → Prog (TpuEff nD τ sig (Elt F) Λ₀ .tc) α}
    {s : Fin 32} (h : steps[k]? = some (.recv s)) {sem : DmaSem sig} (hs : sem = recvS s)
    {sp sp' : Space} {sh sh' : Shape} {e e' : EltTy} {src : Memref sig .tc sp' sh' e'} {dst : Memref sig .tc sp sh e}
    {hsrc : src.view.WordExact} {hdst : dst.view.WordExact} (hN : dst.view.dmaCredit = N)
    (hk : SS X K c (k + 1) ⊢ Runs c (kont ⟨⟩) Q) :
    SS X K c k ⊢ Runs c (.op (.waitDma2 sem src dst hsrc hdst) kont) Q := by
  subst hs
  have hO : Ow c (held k) = Ow c (held (k + 1)) := by
    rw [Ow_step h c, owe_sum_zero c _ (fun a ha => by rw [List.mem_singleton.mp ha]; rfl), add_zero]
  refine step_of h c K (Entails.refl _) (R := iprop(atPos ER (recvCell c s) 1 ∅ 0 ∗ gotPts X c s))
    (Entails.of_eq (by rw [got_arrival]; rfl)) hk fun W => ?_
  show iprop(recs X K ∗ levAts L lv ∗ (cred (tallyAt (recvCell c s) () N) ∗ atPos ER (recvCell c s) 0 ∅ 0) ∗ _) ⊢ _
  iintro ⟨#HR, #HL, ⟨Hc, Ha⟩, HO⟩ Hk
  ihave #Hr := (rec_of X K (c, some (true, s))) $$ HR
  icases Hr with ⟨#Hi, #Hre⟩
  iapply (Rounds.wp_wait_rest_token 𝒱₀ ER (rd X) (c : Thread nD τ) none (κ := K (c, some (true, s))) (k' := N)
      (fun K => (wpE_waitDma2_eq 𝒱₀ (c : Thread nD τ) none Set.univ K).trans (by rw [hN])) (Set.mem_univ _) () (O := Ow c (held k)) (W := W) (R := 0) (m := 0) (T := ∅)
      (by rw [Nat.zero_add]; exact (expect_recv X c s).symm)) $$ [Hc HO Ha]
  · isplitr; · iexact Hi
    isplitl [Hc]; · iexact Hc
    isplitl [HO]; · iexact HO
    isplitr; · iapply (mayWait h rfl c _ (lv_recv c s)); iexact HL
    iexact Ha
  iintro ⟨HO, Ha, -, Hp⟩
  ihave Hp := (Entails.of_eq (rest_recv X c s)) $$ Hp
  iapply Hk
  rw [← hO]
  isplitr [HO]
  · isplitl [Ha]; · iexact Ha
    iexact Hp
  iexact HO

/-- The wait until the copy of a slot is out. -/
theorem step_done {α : Type} {Q : α → sProp 𝕄} {kont : PUnit → Prog (TpuEff nD τ sig (Elt F) Λ₀ .tc) α}
    {s : Fin 32} (h : steps[k]? = some (.done s)) {sem : DmaSem sig} (hs : sem = sendS s)
    {sp sp' : Space} {sh sh' : Shape} {e e' : EltTy} {src : Memref sig .tc sp' sh' e'} {dst : Memref sig .tc sp sh e}
    {hsrc : src.view.WordExact} {hdst : dst.view.WordExact} (hN : dst.view.dmaCredit = N)
    (hk : SS X K c (k + 1) ⊢ Runs c (kont ⟨⟩) Q) :
    SS X K c k ⊢ Runs c (.op (.waitDma2 sem src dst hsrc hdst) kont) Q := by
  subst hs
  have hO : Ow c (held k) = Ow c (held (k + 1)) := by
    rw [Ow_step h c, owe_sum_zero c _ (fun a ha => by rw [List.mem_singleton.mp ha]; rfl), add_zero]
  refine step_of h c K (Entails.refl _) (R := iprop(atPos ER (sendCell c s) 1 ∅ 0 ∗ srcPts X c s)) (Entails.refl _) hk fun W => ?_
  show iprop(recs X K ∗ levAts L lv ∗ (cred (tallyAt (sendCell c s) () N) ∗ atPos ER (sendCell c s) 0 ∅ 0) ∗ _) ⊢ _
  iintro ⟨#HR, #HL, ⟨Hc, Ha⟩, HO⟩ Hk
  ihave #Hr := (rec_of X K (c, some (false, s))) $$ HR
  icases Hr with ⟨#Hi, #Hre⟩
  iapply (Rounds.wp_wait_rest_token 𝒱₀ ER (rd X) (c : Thread nD τ) none (κ := K (c, some (false, s))) (k' := N)
      (fun K => (wpE_waitDma2_eq 𝒱₀ (c : Thread nD τ) none Set.univ K).trans (by rw [hN])) (Set.mem_univ _) () (O := Ow c (held k)) (W := W) (R := 0) (m := 0) (T := ∅)
      (by rw [Nat.zero_add]; exact (expect_send X c s).symm)) $$ [Hc HO Ha]
  · isplitr; · iexact Hi
    isplitl [Hc]; · iexact Hc
    isplitl [HO]; · iexact HO
    isplitr; · iapply (mayWait h rfl c _ (lv_send c s)); iexact HL
    iexact Ha
  iintro ⟨HO, Ha, -, Hp⟩
  ihave Hp := (Entails.of_eq (rest_send X c s)) $$ Hp
  iapply Hk
  rw [← hO]
  isplitr [HO]
  · isplitl [Ha]; · iexact Ha
    iexact Hp
  iexact HO

end Events

end Cert.KernelIdealProof

end
-- ==== Proof.KernelIdealMoves.lean ====
/-
# The events that move data

Which elements the rectangles of the program cover, what a copy leaves where it lands, and one lemma for each kind
of event that moves data: a copy of addends, a copy of finished sums, and a sum.
-/
module

public import proofs.«01_k».proof.Proof.KernelIdealState
public import Idealize.ShloMosaic.Lib.Pipeline.ValueKit.Geometry

@[expose] public section

noncomputable section

namespace Cert.KernelIdealProof

open Cert.KernelIdeal Cert.KernelIdeal.Gen
open Cert.Mesh (nb half quarter sumBlk axis sendBlk recvBlk owner Token level steps held Step owing arrival slots)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles -/

/-- A 32 × 512 piece of the addends. -/
abbrev xCut (off : Fin 3 → ℕ) (inb : ∀ a : Fin S1x1024x1024.rank, off a + S1x32x512.size a ≤ S1x1024x1024.size a) :
    Memref sig .tc .vmem S32x512 .f32 :=
  (xM.slice (Rect.unit (s := S1x1024x1024) off S1x32x512.size inb) (fun _ => rfl) : Memref sig .tc .vmem S1x32x512 .f32).squeeze S32x512
    squeezes_S1x32x512_S32x512
/-- A slab of the landing buffer. -/
abbrev pCut (off : Fin 3 → ℕ) (inb : ∀ a : Fin S12x32x512.rank, off a + S1x32x512.size a ≤ S12x32x512.size a) :
    Memref sig .tc .vmem S32x512 .f32 :=
  (pM.slice (Rect.unit (s := S12x32x512) off S1x32x512.size inb) (fun _ => rfl) : Memref sig .tc .vmem S1x32x512 .f32).squeeze S32x512
    squeezes_S1x32x512_S32x512
/-- 32 rows of the result. -/
abbrev oCut (off : Fin 2 → ℕ) (inb : ∀ a : Fin S1024x512.rank, off a + S32x512.size a ≤ S1024x512.size a) :
    Memref sig .tc .vmem S32x512 .f32 :=
  oM.slice (Rect.unit (s := S1024x512) off S32x512.size inb) (fun _ => rfl)

/-- An index of a piece, with its leading axis of extent one. -/
def up (y : S32x512.Idx) : S1x32x512.Idx := Shape.reshapeEquiv squeezes_S1x32x512_S32x512.numel_eq y

theorem up_val (y : S32x512.Idx) : (up y 1).val = (y 0).val ∧ (up y 2).val = (y 1).val := by
  have e : up y = ValueIdx.ix3 (⟨0, Nat.one_pos⟩ : Fin 1) (⟨(y 0).val, (y 0).isLt⟩ : Fin 32) (⟨(y 1).val, (y 1).isLt⟩ : Fin 512) :=
    (congrArg (Shape.reshapeEquiv squeezes_S1x32x512_S32x512.numel_eq)
      (funext fun a => by match a with | ⟨0, _⟩ => rfl | ⟨1, _⟩ => rfl)).trans
      (ValueIdx.reshapeEquiv_ix2_1ab (a := 32) (b := 512) squeezes_S1x32x512_S32x512.numel_eq ⟨(y 0).val, (y 0).isLt⟩ ⟨(y 1).val, (y 1).isLt⟩)
  rw [e]; exact ⟨rfl, rfl⟩

theorem up_zero (y : S32x512.Idx) : (up y 0).val = 0 := by
  have : (up y 0).val < 1 := (up y 0).isLt
  omega

theorem rect_x {off : Fin 3 → ℕ} (inb : ∀ a : Fin S1x1024x1024.rank, off a + S1x32x512.size a ≤ S1x1024x1024.size a) {b h : ℕ}
    (ho : off = ![0, 32 * b, 512 * h]) : (Rect.unit (s := S1x1024x1024) off S1x32x512.size inb).set = xpart b h := by
  subst ho
  ext i
  have h0 : (i 0).val < 1 := (i 0).isLt
  rw [Rect.mem_set_unit, mem_xpart]
  constructor
  · intro hi
    have h1 : 32 * b ≤ (i 1).val ∧ (i 1).val < 32 * b + 32 := hi 1
    have h2 : 512 * h ≤ (i 2).val ∧ (i 2).val < 512 * h + 512 := hi 2
    omega
  · rintro ⟨h1, h2⟩ a
    match a with
    | ⟨0, _⟩ => exact (⟨by omega, by omega⟩ : 0 ≤ (i 0).val ∧ (i 0).val < 0 + 1)
    | ⟨1, _⟩ => exact (⟨by omega, by omega⟩ : 32 * b ≤ (i 1).val ∧ (i 1).val < 32 * b + 32)
    | ⟨2, _⟩ => exact (⟨by omega, by omega⟩ : 512 * h ≤ (i 2).val ∧ (i 2).val < 512 * h + 512)

theorem rect_p {off : Fin 3 → ℕ} (inb : ∀ a : Fin S12x32x512.rank, off a + S1x32x512.size a ≤ S12x32x512.size a) {k : ℕ}
    (ho : off = ![k, 0, 0]) : (Rect.unit (s := S12x32x512) off S1x32x512.size inb).set = slab k := by
  subst ho
  ext i
  have h1 : (i 1).val < 32 := (i 1).isLt
  have h2 : (i 2).val < 512 := (i 2).isLt
  rw [Rect.mem_set_unit, mem_slab]
  constructor
  · intro hi
    have h0 : k ≤ (i 0).val ∧ (i 0).val < k + 1 := hi 0
    omega
  · intro h0 a
    match a with
    | ⟨0, _⟩ => exact (⟨by omega, by omega⟩ : k ≤ (i 0).val ∧ (i 0).val < k + 1)
    | ⟨1, _⟩ => exact (⟨by omega, by omega⟩ : 0 ≤ (i 1).val ∧ (i 1).val < 0 + 32)
    | ⟨2, _⟩ => exact (⟨by omega, by omega⟩ : 0 ≤ (i 2).val ∧ (i 2).val < 0 + 512)

theorem rect_o {off : Fin 2 → ℕ} (inb : ∀ a : Fin S1024x512.rank, off a + S32x512.size a ≤ S1024x512.size a) {b : ℕ}
    (ho : off = ![32 * b, 0]) : (Rect.unit (s := S1024x512) off S32x512.size inb).set = rows b := by
  subst ho
  ext i
  have h1 : (i 1).val < 512 := (i 1).isLt
  rw [Rect.mem_set_unit, mem_rows]
  constructor
  · intro hi
    have h0 : 32 * b ≤ (i 0).val ∧ (i 0).val < 32 * b + 32 := hi 0
    omega
  · intro h0 a
    match a with
    | ⟨0, _⟩ => exact (⟨by omega, by omega⟩ : 32 * b ≤ (i 0).val ∧ (i 0).val < 32 * b + 32)
    | ⟨1, _⟩ => exact (⟨by omega, by omega⟩ : 0 ≤ (i 1).val ∧ (i 1).val < 0 + 512)

section Cuts

variable {off : Fin 3 → ℕ} {off2 : Fin 2 → ℕ}

theorem xCut_set (inb) {b h : ℕ} (ho : off = ![0, 32 * b, 512 * h]) : (xCut off inb).view.set = xpart b h :=
  (View.set_reshape _ _).trans ((View.set_slice_whole _ _).trans (rect_x inb ho))
theorem pCut_set (inb) {k : ℕ} (ho : off = ![k, 0, 0]) : (pCut off inb).view.set = slab k :=
  (View.set_reshape _ _).trans ((View.set_slice_whole _ _).trans (rect_p inb ho))
theorem oCut_set (inb) {b : ℕ} (ho : off2 = ![32 * b, 0]) : (oCut off2 inb).view.set = rows b :=
  (View.set_slice_whole _ _).trans (rect_o inb ho)

theorem xCut_emb (inb) (y : S32x512.Idx) (a : Fin 3) : ((xCut off inb).view.emb y a : ℕ) = off a + (up y a : ℕ) :=
  ValueKit.view_emb_slice_whole_unit_val cc0_stg0_0 off _ inb (up y) a
theorem pCut_emb (inb) (y : S32x512.Idx) (a : Fin 3) : ((pCut off inb).view.emb y a : ℕ) = off a + (up y a : ℕ) :=
  ValueKit.view_emb_slice_whole_unit_val cc0_scratch0 off _ inb (up y) a

end Cuts

/-! ## What a copy leaves -/

/-- A slab of addends, copied to the neighbour along x, is what its landing buffer is to hold there. -/
theorem copy_x (X : Dev nD → XBuf F) (c : Dev nD) (k : ℕ) {off off' : Fin 3 → ℕ} (inb) (inb')
    (ho : off = ![0, 32 * sumBlk c k, 512 * (1 - half c)]) (ho' : off' = ![k, 0, 0]) (f : PBuf F) :
    ∀ i ∈ slab k, (pCut off' inb').view.write (Elt F) f ((xCut off inb).view.read (Elt F) (X c)) Finset.univ i = landed X (nb 0 c) i := by
  intro i hi
  rw [← pCut_set inb' ho'] at hi
  obtain ⟨y, -, rfl⟩ := Finset.mem_map.mp hi
  refine (View.write_emb_of_mem _ _ (Finset.mem_univ y)).trans ?_
  show X c ((xCut off inb).view.emb y) = _
  unfold landed
  rw [Mesh.nb_nb]
  have e0 := up_zero y
  refine congrArg (X c) (eq_at3 ?_ ?_)
  · rw [xCut_emb, pCut_emb, pCut_emb, ho, ho', Mesh.sumBlk_nb_x, show (![k, 0, 0] : Fin 3 → ℕ) 0 = k from rfl, e0, Nat.add_zero]
    show 32 * sumBlk c k + _ = _ + (0 + _)
    rw [Nat.zero_add]
  · rw [xCut_emb, pCut_emb, ho, ho', Mesh.half_nb_x]
    show 512 * (1 - half c) + _ = _ + (0 + _)
    rw [Nat.zero_add]

/-- Rows written over by themselves from another device's contents. -/
theorem copy_o {off : Fin 2 → ℕ} (inb) {b : ℕ} (ho : off = ![32 * b, 0]) (f g : OBuf F) :
    ∀ i ∈ rows b, (oCut off inb).view.write (Elt F) f ((oCut off inb).view.read (Elt F) g) Finset.univ i = g i := by
  intro i hi
  rw [← oCut_set inb ho] at hi
  obtain ⟨y, -, rfl⟩ := Finset.mem_map.mp hi
  exact View.write_emb_of_mem _ _ (Finset.mem_univ y)

/-- Sender and receiver agree on the sums of a block that is sent. -/
theorem result_send (X : Dev nD → XBuf F) (c : Dev nD) (s : Fin 32) (hs : 12 ≤ s.val) :
    ∀ i ∈ rows (sendBlk c s), result X c i = result X (nb (axis s) c) i := by
  intro i hi
  unfold result
  rw [mem_rows.mp hi, Mesh.owner_send c s hs]

section Events

variable (X : Dev nD → XBuf F) (K : Dev nD × Role → ℕ) (c : Dev nD) {k : ℕ}

/-- A copy, given what its source is, where it lands and what it leaves there. -/
theorem step_send {α : Type} {Q : α → sProp 𝕄} {kont : PUnit → Prog (TpuEff nD τ sig (Elt F) Λ₀ .tc) α}
    {s : Fin 32} (h : steps[k]? = some (.send s)) {n : Dev nD} (hn : n = nb (axis s) c)
    {sp sp' : Space} {sh : Shape} {e : EltTy} {src : Memref sig .tc sp sh e} {dst : Memref sig .tc sp' sh e}
    {sS sR : DmaSem sig} (hS : sS = sendS s) (hR : sR = recvS s)
    {hsrc : src.view.WordExact} {hdst : dst.view.WordExact} {hsc : dst.view.ref.isScScratch = false}
    {hsem : DmaTarget.Typed (nD := nD) (τ := τ) sp (.dma sR) (.remote (Dev.tc n) dst (.dma sS) hsc)} (hN : dst.view.dmaCredit = N)
    {q : PosShare TreeShare} {fs : Buf (Elt F) (src.view.loc (c : Thread nD τ))}
    (hs : srcPts X c s = (src.view.loc (c : Thread nD τ) ↦[src.view.set]{q} fs))
    (hroom : roomPts (F := F) (nb (axis s) c) s ⊢ iprop(∃ fd, dst.view.loc (nb (axis s) c : Thread nD τ) ↦[dst.view.set]{fullShare} fd))
    (hgot : ∀ fd, (dst.view.loc (nb (axis s) c : Thread nD τ) ↦[dst.view.set]{fullShare}
        (dst.view.write (Elt F) fd (src.view.read (Elt F) fs) Finset.univ)) ⊢ gotPts X (nb (axis s) c) s)
    (hk : SS X K c (k + 1) ⊢ Runs c (kont ⟨⟩) Q) :
    SS X K c k ⊢ Runs c (.op (.enqueueDma src (.remote (Dev.tc n) dst (.dma sS) hsc) (.dma sR) hsrc hdst hsem) kont) Q := by
  subst hn hS hR
  have hO : Ow c (held k) = Ow c (held (k + 1)) + tallyAt (recvCell (nb (axis s) c) s) () N := by
    rw [Ow_step h c]
    congr 1
    unfold Step.pre
    rw [List.map_cons, List.sum_cons, owe_sum_zero c _ (fun a ha => by
      rcases List.mem_cons.mp ha with rfl | ha
      · rfl
      · rw [List.mem_singleton.mp ha]; rfl), add_zero]
    rfl
  refine step_of h c K (Entails.refl _) (R := iprop(cred (tallyAt (sendCell c s) () N) ∗ atPos ER (sendCell c s) 0 ∅ 0)) (Entails.refl _) hk fun W => ?_
  show iprop(recs X K ∗ levAts L lv ∗ ((dutyTok ER (sendCell c s) 0 0 ∗ dutyTok ER (recvCell (nb (axis s) c) s) 0 0 ∗ atPos ER (sendCell c s) 0 ∅ 0)
    ∗ roomPts (F := F) (nb (axis s) c) s ∗ srcPts X c s) ∗ _) ⊢ _
  iintro ⟨#HR, #HL, ⟨⟨Ht1, Ht2, Ha⟩, Hroom, Hsrc⟩, HO⟩ Hk
  ihave #H1 := (rec_of X K (c, some (false, s))) $$ HR
  icases H1 with ⟨#Hi1, #Hre1⟩
  ihave #H2 := (rec_of X K (nb (axis s) c, some (true, s))) $$ HR
  icases H2 with ⟨#Hi2, #Hre2⟩
  ihave Hroom := hroom $$ Hroom
  icases Hroom with ⟨%fd, Hroom⟩
  ihave Hsrc := (Entails.of_eq hs) $$ Hsrc
  iapply (Rounds.wp_send_pointsTo 𝒱₀ ER (rd X) (c : Thread nD τ) none (c' := (nb (axis s) c : Thread nD τ)) (sS := .dma (sendS s)) (sem := .dma (recvS s)) (q := q) (fs := fs) (fd := fd)
      (d₁ := (0 : Fin 3)) (d₂ := (0 : Fin 3)) (r₁ := 0) (r₂ := 0)
      (κ₁ := K (c, some (false, s))) (κ₂ := K (nb (axis s) c, some (true, s)))
      (by rw [duties_send]; exact Finset.mem_singleton_self _) (by rw [duties_recv]; exact Finset.mem_singleton_self _)
      () () N hN (amount_send X c s 0) (amount_recv X (nb (axis s) c) s 0) _ hO
      (by rw [payload_send, hs]) (by rw [payload_recv]; exact hgot fd)) $$ [HO Ht1 Ht2 Hroom Hsrc]
  · isplitr; · iexact Hi1
    isplitr; · iexact Hi2
    isplitl [Hsrc]; · iexact Hsrc
    isplitl [Hroom]; · iexact Hroom
    isplitl [HO]; · iexact HO
    isplitl [Ht1]; · iexact Ht1
    isplitr; · iexact Hre1
    isplitl [Ht2]; · iexact Ht2
    iexact Hre2
  iintro ⟨Hc, HO⟩
  iapply Hk
  isplitr [HO]
  · isplitl [Hc]; · iexact Hc
    iexact Ha
  iexact HO

/-- What device `d` has to add, for device `c`'s `j`-th sum. -/
def tile (d : Dev nD) (j : ℕ) : S1x32x512.Idx → Elt F .f32 := fun z => X d (at3 (32 * sumBlk c j + (z 1).val) (512 * half c + (z 2).val))

/-- A copy of addends to the neighbour along x. -/
theorem step_sendX {α : Type} {Q : α → sProp 𝕄} {kont : PUnit → Prog (TpuEff nD τ sig (Elt F) Λ₀ .tc) α}
    {s : Fin 32} (hs : s.val < 12) (h : steps[k]? = some (.send s)) {n : Dev nD} (hn : n = nb (axis s) c)
    {off off' : Fin 3 → ℕ} {inb inb'} (ho : off = ![0, 32 * sumBlk c s.val, 512 * (1 - half c)]) (ho' : off' = ![s.val, 0, 0])
    {sS sR : DmaSem sig} (hS : sS = sendS s) (hR : sR = recvS s)
    {hsrc : (xCut off inb).view.WordExact} {hdst : (pCut off' inb').view.WordExact} {hsc : (pCut off' inb').view.ref.isScScratch = false}
    {hsem : DmaTarget.Typed (nD := nD) (τ := τ) .vmem (.dma sR) (.remote (Dev.tc n) (pCut off' inb') (.dma sS) hsc)}
    (hk : SS X K c (k + 1) ⊢ Runs c (kont ⟨⟩) Q) :
    SS X K c k ⊢ Runs c (.op (.enqueueDma (xCut off inb) (.remote (Dev.tc n) (pCut off' inb') (.dma sS) hsc) (.dma sR) hsrc hdst hsem) kont) Q := by
  have hax : axis s = 0 := if_pos hs
  refine step_send X K c h hn hS hR rfl (q := fullShare) (fs := X c) ?_ ?_ ?_ hk
  · unfold srcPts
    rw [dif_pos hs, xCut_set inb ho]; rfl
  · unfold roomPts
    rw [if_pos hs, pCut_set inb' ho']; exact Entails.refl _
  · intro fd
    unfold gotPts
    rw [if_pos hs, pCut_set inb' ho', hax]
    exact Entails.of_eq (pointsTo_congr (copy_x X c s.val inb inb' ho ho' fd))

/-- A copy of finished sums. -/
theorem step_sendO {α : Type} {Q : α → sProp 𝕄} {kont : PUnit → Prog (TpuEff nD τ sig (Elt F) Λ₀ .tc) α}
    {s : Fin 32} (hs : 12 ≤ s.val) (h : steps[k]? = some (.send s)) {n : Dev nD} (hn : n = nb (axis s) c)
    {off : Fin 2 → ℕ} {inb} (ho : off = ![32 * sendBlk c s, 0])
    {sS sR : DmaSem sig} (hS : sS = sendS s) (hR : sR = recvS s)
    {hsrc hdst : (oCut off inb).view.WordExact} {hsc : (oCut off inb).view.ref.isScScratch = false}
    {hsem : DmaTarget.Typed (nD := nD) (τ := τ) .vmem (.dma sR) (.remote (Dev.tc n) (oCut off inb) (.dma sS) hsc)}
    (hk : SS X K c (k + 1) ⊢ Runs c (kont ⟨⟩) Q) :
    SS X K c k ⊢ Runs c (.op (.enqueueDma (oCut off inb) (.remote (Dev.tc n) (oCut off inb) (.dma sS) hsc) (.dma sR) hsrc hdst hsem) kont) Q := by
  have hb : recvBlk (nb (axis s) c) s = sendBlk c s := by unfold recvBlk; rw [Mesh.nb_nb]
  refine step_send X K c h hn hS hR rfl (q := shareOf s) (fs := result X c) ?_ ?_ ?_ hk
  · unfold srcPts
    rw [dif_neg (by omega), oCut_set inb ho]; rfl
  · unfold roomPts
    rw [if_neg (by omega), oCut_set inb ho, hb]; exact Entails.refl _
  · intro fd
    unfold gotPts
    rw [if_neg (by omega), oCut_set inb ho, hb]
    exact Entails.of_eq (pointsTo_congr fun i hi => (copy_o inb ho fd (result X c) i hi).trans (result_send X c s hs i hi))

/-! ## A sum -/

/-- An event's look at one of its resources, which it puts back. -/
theorem look {a : Token} (ha : a ∈ held k) {G G' : sProp 𝕄} (hstep : res X c a ⊢ iprop((res X c a -∗ G') -∗ G))
    (hk : SS X K c k ⊢ G') : SS X K c k ⊢ G := by
  have hst : St X c (held k) = iprop(res X c a ∗ St X c (held k \ {a})) := by
    unfold St
    rw [bigSep_sdiff_split (Finset.singleton_subset_iff.mpr ha), bigSep_singleton]
    rfl
  unfold SS at hk ⊢
  rw [hst] at hk ⊢
  iintro ⟨#HR, #HL, ⟨Ha, HS⟩, HO⟩
  iapply hstep $$ Ha
  iintro Ha
  iapply hk
  isplitr; · iexact HR
  isplitr; · iexact HL
  isplitr [HO]
  · isplitl [Ha] <;> iassumption
  iexact HO

/-- The part of the addends that a device adds up itself is never away. -/
theorem own_rest (b : ℕ) : xpart b (half c) ⊆ xRest c := by
  intro i hi
  refine Finset.mem_sdiff.mpr ⟨Finset.mem_univ i, fun h => ?_⟩
  obtain ⟨j, -, hj⟩ := Finset.mem_biUnion.mp h
  have h1 := (mem_xpart.mp hi).2
  have h2 := (mem_xpart.mp hj).2
  have h3 := Mesh.half_lt c
  omega

/-- Reading the device's own addends for its `j`-th sum. -/
theorem step_loadX {α : Type} {Q : α → sProp 𝕄} {j : Fin 12} (h : steps[k]? = some (.sum j))
    {off : Fin 3 → ℕ} {inb} (ho : off = ![0, 32 * sumBlk c j.val, 512 * half c])
    {hl : xM.view.LoadsAt (Rect.unit (s := S1x1024x1024) off S1x32x512.size inb).toLoadRect}
    {kont : (S1x32x512.Idx → Elt F .f32) → Prog (TpuEff nD τ sig (Elt F) Λ₀ .tc) α}
    (hk : SS X K c k ⊢ Runs c (kont (tile X c c j.val)) Q) :
    SS X K c k ⊢ Runs c (.op (.load xM (Rect.unit (s := S1x1024x1024) off S1x32x512.size inb).toLoadRect hl) kont) Q := by
  refine look X K c (a := (.x, 0)) (Mesh.pre_subset h (by simp [Step.pre])) ?_ hk
  have e : (xM.access (Rect.unit (s := S1x1024x1024) off S1x32x512.size inb)).read (Elt F) (X c) = tile X c c j.val := by
    funext z
    have hz : ∀ a : Fin 3, (((xM.access (Rect.unit (s := S1x1024x1024) off S1x32x512.size inb)).emb z a : Fin _) : ℕ) = off a + (z a : ℕ) := fun a =>
      ValueKit.view_emb_slice_whole_unit_val cc0_stg0_0 off _ inb z a
    show X c ((xM.access (Rect.unit (s := S1x1024x1024) off S1x32x512.size inb)).emb z) = _
    exact congrArg (X c) (eq_at3 ((hz 1).trans (congrArg (· + (z 1).val) (congrFun ho 1))) ((hz 2).trans (congrArg (· + (z 2).val) (congrFun ho 2))))
  have hload := wp_load_rect (defs := defs₀ (F := F)) 𝒱₀ (c : Thread nD τ) none (Γ := .empty) Set.univ (hl := hl) (k := kont) (Q := Q) (q := fullShare) (f := X c) (S := xRest c)
    (((View.set_slice_whole _ _).trans (rect_x inb ho)).trans_subset (own_rest c _))
  rw [e] at hload
  exact hload

/-- Reading the neighbour's addends for the `j`-th sum, where they have landed. -/
theorem step_loadP {α : Type} {Q : α → sProp 𝕄} {j : Fin 12} (h : steps[k]? = some (.sum j))
    {off : Fin 3 → ℕ} {inb} (ho : off = ![j.val, 0, 0])
    {hl : pM.view.LoadsAt (Rect.unit (s := S12x32x512) off S1x32x512.size inb).toLoadRect}
    {kont : (S1x32x512.Idx → Elt F .f32) → Prog (TpuEff nD τ sig (Elt F) Λ₀ .tc) α}
    (hk : SS X K c k ⊢ Runs c (kont (tile X c (nb 0 c) j.val)) Q) :
    SS X K c k ⊢ Runs c (.op (.load pM (Rect.unit (s := S12x32x512) off S1x32x512.size inb).toLoadRect hl) kont) Q := by
  refine look X K c (a := (.got, Mesh.idx j)) (Mesh.pre_subset h (by simp [Step.pre])) ?_ hk
  have e : (pM.access (Rect.unit (s := S12x32x512) off S1x32x512.size inb)).read (Elt F) (landed X c) = tile X c (nb 0 c) j.val := by
    funext z
    have hz : ∀ a : Fin 3, (((pM.access (Rect.unit (s := S12x32x512) off S1x32x512.size inb)).emb z a : Fin _) : ℕ) = off a + (z a : ℕ) := fun a =>
      ValueKit.view_emb_slice_whole_unit_val cc0_scratch0 off _ inb z a
    have h0 : (z 0).val = 0 := by have : (z 0).val < 1 := (z 0).isLt; omega
    show landed X c ((pM.access (Rect.unit (s := S12x32x512) off S1x32x512.size inb)).emb z) = _
    unfold landed tile
    have e0 : off 0 = j.val := congrFun ho 0
    have e1 : off 1 = 0 := congrFun ho 1
    have e2 : off 2 = 0 := congrFun ho 2
    rw [hz 0, hz 1, hz 2, e0, e1, e2, h0, Nat.add_zero, Nat.zero_add, Nat.zero_add]
  have hg : res X c (.got, Mesh.idx j) = pPts c (slab j.val) (landed X c) := if_pos j.isLt
  have hload := wp_load_rect (defs := defs₀ (F := F)) 𝒱₀ (c : Thread nD τ) none (Γ := .empty) Set.univ (hl := hl) (k := kont) (Q := Q) (q := fullShare) (f := landed X c) (S := slab j.val)
    (((View.set_slice_whole _ _).trans (rect_p inb ho)).subset)
  rw [e] at hload
  rw [hg]
  exact hload

/-- Reading the rows of the `j`-th sum before they are written; what is read is of no consequence. -/
theorem step_loadO {α : Type} {Q : α → sProp 𝕄} {j : Fin 12} (h : steps[k]? = some (.sum j))
    {off : Fin 2 → ℕ} {inb} (ho : off = ![32 * sumBlk c j.val, 0])
    {hl : oM.view.LoadsAt (Rect.unit (s := S1024x512) off S32x512.size inb).toLoadRect}
    {kont : (S32x512.Idx → Elt F .f32) → Prog (TpuEff nD τ sig (Elt F) Λ₀ .tc) α}
    (hk : ∀ v, SS X K c k ⊢ Runs c (kont v) Q) :
    SS X K c k ⊢ Runs c (.op (.load oM (Rect.unit (s := S1024x512) off S32x512.size inb).toLoadRect hl) kont) Q := by
  refine look X K c (a := (.own, Mesh.idx j)) (Mesh.pre_subset h (by simp [Step.pre])) ?_ (G' := iprop(∀ v, Runs c (kont v) Q)) (forall_intro hk)
  show iprop(∃ f, oPts (F := F) c (rows (sumBlk c j.val)) fullShare f) ⊢ iprop((iprop(∃ f, oPts (F := F) c (rows (sumBlk c j.val)) fullShare f) -∗ _) -∗ _)
  have hload : ∀ f : OBuf F, oPts c (rows (sumBlk c j.val)) fullShare f ⊢ iprop((oPts c (rows (sumBlk c j.val)) fullShare f
      -∗ Runs c (kont ((oM.access (Rect.unit (s := S1024x512) off S32x512.size inb)).read (Elt F) f)) Q)
      -∗ Runs c (.op (.load oM (Rect.unit (s := S1024x512) off S32x512.size inb).toLoadRect hl) kont) Q) := fun f =>
    wp_load_rect (defs := defs₀ (F := F)) 𝒱₀ (c : Thread nD τ) none (Γ := .empty) Set.univ (hl := hl) (k := kont) (Q := Q) (q := fullShare) (f := f)
      (S := rows (sumBlk c j.val)) (((View.set_slice_whole _ _).trans (rect_o inb ho)).subset)
  iintro ⟨%f, Ho⟩ Hk
  iapply (hload f) $$ Ho
  iintro Ho
  ispecialize Hk $$ [Ho]
  · iexists f; iexact Ho
  iapply Hk

/-- The rows of the `j`-th sum, written: they hold the result. -/
theorem store_o (j : Fin 12) {off : Fin 2 → ℕ} (inb) (ho : off = ![32 * sumBlk c j.val, 0]) (f : OBuf F) :
    ∀ i ∈ rows (sumBlk c j.val), (oCut off inb).view.write (Elt F) f
      (fun y => FloatOps.addf (tile X c c j.val (up y)) (tile X c (nb 0 c) j.val (up y))) Finset.univ i = result X c i := by
  intro i hi
  have hb := mem_rows.mp hi
  rw [← oCut_set inb ho] at hi
  obtain ⟨y, -, rfl⟩ := Finset.mem_map.mp hi
  refine (View.write_emb_of_mem _ _ (Finset.mem_univ y)).trans ?_
  unfold result
  rw [hb, Mesh.owner_sumBlk]
  have hz : ∀ a : Fin 2, (((oCut off inb).view.emb y a : Fin _) : ℕ) = off a + (y a : ℕ) := fun a =>
    ValueKit.view_emb_slice_whole_unit_val cc0_stg1_0 off _ inb y a
  have hu := up_val y
  unfold sums tile
  have e0 : off 0 = 32 * sumBlk c j.val := congrFun ho 0
  have e1 : off 1 = 0 := congrFun ho 1
  rw [hz 0, hz 1, e0, e1, hu.1, hu.2, Nat.zero_add]
  rfl

/-- Writing the `j`-th sum. -/
theorem step_store {α : Type} {Q : α → sProp 𝕄} {kont : PUnit → Prog (TpuEff nD τ sig (Elt F) Λ₀ .tc) α}
    {j : Fin 12} (h : steps[k]? = some (.sum j)) {off : Fin 2 → ℕ} {inb} (ho : off = ![32 * sumBlk c j.val, 0])
    {w : S32x512.Idx → Elt F .f32} (hw : w = fun y => FloatOps.addf (tile X c c j.val (up y)) (tile X c (nb 0 c) j.val (up y)))
    {hx : (oM.access (Rect.unit (s := S1024x512) off S32x512.size inb)).Stores Finset.univ} {hm}
    (hk : SS X K c (k + 1) ⊢ Runs c (kont ⟨⟩) Q) :
    SS X K c k ⊢ Runs c (.op (.store oM (Rect.unit (s := S1024x512) off S32x512.size inb) w Finset.univ hx hm) kont) Q := by
  subst hw
  have hO : Ow c (held k) = Ow c (held (k + 1)) := by
    rw [Ow_step h c, owe_sum_zero c _ (fun a ha => by
      simp only [Step.pre, List.mem_cons, List.not_mem_nil, or_false] at ha
      rcases ha with rfl | rfl | rfl <;> rfl), add_zero]
  have hstore : ∀ f : OBuf F, oPts c (rows (sumBlk c j.val)) fullShare f ⊢ iprop((oPts c (rows (sumBlk c j.val)) fullShare (result X c) -∗ Runs c (kont ⟨⟩) Q)
      -∗ Runs c (.op (.store oM (Rect.unit (s := S1024x512) off S32x512.size inb)
          (fun y => FloatOps.addf (tile X c c j.val (up y)) (tile X c (nb 0 c) j.val (up y))) Finset.univ hx hm) kont) Q) := fun f => by
    have hst := wp_store (defs := defs₀ (F := F)) 𝒱₀ (c : Thread nD τ) none (Γ := .empty) Set.univ
      (w := fun y => FloatOps.addf (tile X c c j.val (up y)) (tile X c (nb 0 c) j.val (up y))) (Mk := Finset.univ) (hx := hx) (hm := hm)
      (k := kont) (Q := Q) (S := rows (sumBlk c j.val)) (f := f) (((View.set_slice_whole _ _).trans (rect_o inb ho)).subset)
    have hc := pointsTo_congr (Ix := Unit) (Name := ℕ) (U := UU) (Lvl := ℕ) (ℓ := (c : Thread nD τ).loc cc0_stg1_0) (q := fullShare) (store_o X c j inb ho f)
    unfold oPts
    rw [← hc]
    exact hst
  refine step_of h c K (Entails.refl _) (R := iprop(res X c (.x, 0) ∗ res X c (.got, Mesh.idx j) ∗ oPts c (rows (sumBlk c j.val)) fullShare (result X c)))
    (by unfold Step.post; rw [bigSepL_cons, bigSepL_cons]; exact sep_mono_right (sep_mono_right (Entails.of_eq (summed_eq X c j).symm))) hk fun W => ?_
  show iprop(recs X K ∗ levAts L lv ∗ (res X c (.x, 0) ∗ res X c (.got, Mesh.idx j) ∗ iprop(∃ f, oPts (F := F) c (rows (sumBlk c j.val)) fullShare f)) ∗ _) ⊢ _
  iintro ⟨#HR, #HL, ⟨Hx, Hg, ⟨%f, Ho⟩⟩, HO⟩ Hk
  iapply (hstore f) $$ Ho
  iintro Ho
  iapply Hk
  rw [← hO]
  isplitr [HO]
  · isplitl [Hx]; · iexact Hx
    isplitl [Hg]; · iexact Hg
    iexact Ho
  iexact HO

end Events

end Cert.KernelIdealProof

end
-- ==== Proof.KernelIdealBody.lean ====
/-
# The program of one device

The program comes in thirty-five parts and a tail.  Each part is read off as the events it performs, in order, and
each event is one application of the lemma for its kind.
-/
module

public import proofs.«01_k».proof.Proof.KernelIdealMoves

@[expose] public section

set_option maxRecDepth 8192

noncomputable section

namespace Cert.KernelIdealProof

open Cert.KernelIdeal Cert.KernelIdeal.Gen
open Cert.Mesh (nb half quarter sumBlk axis sendBlk recvBlk owner Token level steps held Step owing arrival slots)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and offsets the program computes -/

/-- The neighbour along the first axis, from the arithmetic of its number. -/
theorem dev_x {c : Dev nD} {n : ℕ} {hn : n < nD} (h : n = (2 * ((c.val / 2) % 2) + c.val % 2 + 4) - 4 * (c.val / 4)) :
    (⟨n, hn⟩ : Dev nD) = nb 0 c := by
  subst h; revert c; decide +kernel
/-- The neighbour along the second axis. -/
theorem dev_y {c : Dev nD} {n : ℕ} {hn : n < nD} (h : n = (4 * (c.val / 4) + c.val % 2 + 2) - 2 * ((c.val / 2) % 2)) :
    (⟨n, hn⟩ : Dev nD) = nb 1 c := by
  subst h; revert c; decide +kernel
/-- The neighbour along the third axis. -/
theorem dev_z {c : Dev nD} {n : ℕ} {hn : n < nD} (h : n = (4 * (c.val / 4) + 2 * ((c.val / 2) % 2) + 1) - c.val % 2) :
    (⟨n, hn⟩ : Dev nD) = nb 2 c := by
  subst h; revert c; decide +kernel

/-- Where a copied block of the own quarter's addends starts. -/
theorem off1 (c : Dev nD) (r : Fin 8) : k0_off1 c (BitVec.ofNat 32 (32 * r.val)) = ![0, 32 * sumBlk c r.val, 512 * (1 - half c)] := by
  revert c r; decide +kernel
/-- Where a copied block of the opposite quarter's addends starts. -/
theorem off2 (c : Dev nD) (r : Fin 4) : k0_off2 c (BitVec.ofNat 32 (32 * r.val)) = ![0, 32 * sumBlk c (8 + r.val), 512 * (1 - half c)] := by
  revert c r; decide +kernel
/-- Where a device's own addends of a block of its quarter start. -/
theorem off3 (c : Dev nD) (r : Fin 8) : k0_off3 c (BitVec.ofNat 32 (32 * r.val)) = ![0, 32 * sumBlk c r.val, 512 * half c] := by
  revert c r; decide +kernel
/-- Where the sum of a block of its quarter goes. -/
theorem off4 (c : Dev nD) (r : Fin 8) : k0_off4 c (BitVec.ofNat 32 (32 * r.val)) = ![32 * sumBlk c r.val, 0] := by
  revert c r; decide +kernel
/-- Where a finished block of its quarter is copied from. -/
theorem off5 (c : Dev nD) (r : Fin 8) : k0_off5 c (BitVec.ofNat 32 (32 * r.val)) = ![32 * sumBlk c r.val, 0] := by
  revert c r; decide +kernel
/-- Where a block that came along the third axis is copied from. -/
theorem off6 (c : Dev nD) (r : Fin 2) : k0_off6 c (BitVec.ofNat 32 (128 + 32 * r.val)) = ![32 * (8 * quarter (nb 2 c) + (4 + r.val)), 0] := by
  revert c r; decide +kernel
/-- Where a block that came along the second axis is copied from. -/
theorem off7 (c : Dev nD) (r : Fin 2) : k0_off7 c (BitVec.ofNat 32 (192 + 32 * r.val)) = ![32 * (8 * quarter (nb 1 c) + (6 + r.val)), 0] := by
  revert c r; decide +kernel
/-- Where a device's own addends of a block of the opposite quarter start. -/
theorem off8 (c : Dev nD) (r : Fin 4) : k0_off8 c (BitVec.ofNat 32 (32 * r.val)) = ![0, 32 * sumBlk c (8 + r.val), 512 * half c] := by
  revert c r; decide +kernel
/-- Where the sum of a block of the opposite quarter goes. -/
theorem off9 (c : Dev nD) (r : Fin 4) : k0_off9 c (BitVec.ofNat 32 (32 * r.val)) = ![32 * sumBlk c (8 + r.val), 0] := by
  revert c r; decide +kernel

/-! ## The parts -/

section parts
variable (X : Dev nD → XBuf F) (K : Dev nD × Role → ℕ) (c : Dev nD)

/-- `p` takes device `c` from event `a` to event `b` and returns something of which `R` holds. -/
def Goes (a b : ℕ) {β : Type} (p : Prog (TpuEff nD τ sig (Elt F) Λ₀ .tc) β) (R : β → Prop) : Prop :=
  ∀ {α : Type} {Q : α → sProp 𝕄} (f : β → Prog (TpuEff nD τ sig (Elt F) Λ₀ .tc) α),
    (∀ r, R r → SS X K c b ⊢ Runs c (f r) Q) → SS X K c a ⊢ Runs c (p >>= f) Q

/-- Part 1 of the program. -/
theorem part1 :
    Goes X K c 0 1 (k0_part1 (F := F) xM (Memref.isWhole_whole _) oM (Memref.isWhole_whole _) pM (Memref.isWhole_whole _) cc0_scratch1 cc0_scratch2)
      (fun r => ∃ v2 v5 v8 v9 v10 v11 v13 v16 v19 v23 v24 v32, r = ⟨c, v2, v5, v8, v9, v10, v11, v13, v16, v19, v23, v24, SemArray.scalar (sig.barrier 0 rfl), v32⟩) := by
  intro α Q f hf
  rw [k0_part1_eq_skeleton]; unfold k0_part1_skel
  simp only [semSignalWord, semWaitWord, Prog.lift, Prog.bind_op, Prog.bind_ret, Prog.pure_eq_ret, wp_deviceId]
  refine step_signal X K c (a := 0) rfl (dev_x (k0_dev1_eq c)) ?_
  exact hf _ ⟨_, _, _, _, _, _, _, _, _, _, _, _, rfl⟩

/-- Part 2 of the program. -/
theorem part2 (v2 v5 v8 v10 v11 v13 v32 : BitVec 32) :
    Goes X K c 1 4 (k0_part2 (F := F) xM (Memref.isWhole_whole _) oM (Memref.isWhole_whole _) pM (Memref.isWhole_whole _) cc0_scratch1 cc0_scratch2 c v2 v5 v8 v10 v11 v13 (SemArray.scalar (sig.barrier 0 rfl)) v32)
      (fun _ => True) := by
  intro α Q f hf
  rw [k0_part2_eq_skeleton]; unfold k0_part2_skel
  simp only [semSignalWord, semWaitWord, Prog.lift, Prog.bind_op, Prog.bind_ret, Prog.pure_eq_ret, wp_deviceId]
  refine step_signal X K c (a := 1) rfl (dev_y (k0_dev2_eq c)) ?_
  refine step_signal X K c (a := 2) rfl (dev_z (k0_dev3_eq c)) ?_
  refine step_barrier X K c rfl ?_
  exact hf _ trivial

/-- Part 3 of the program. -/
theorem part3 (v5 v8 v9 v23 : BitVec 32) :
    Goes X K c 4 5 (k0_part3 (F := F) xM (Memref.isWhole_whole _) oM (Memref.isWhole_whole _) pM (Memref.isWhole_whole _) cc0_scratch1 cc0_scratch2 c v5 v8 v9 v23)
      (fun _ => True) := by
  intro α Q f hf
  rw [k0_part3_eq_skeleton]; unfold k0_part3_skel
  simp only [semSignalWord, semWaitWord, Prog.lift, Prog.bind_op, Prog.bind_ret, Prog.pure_eq_ret, wp_deviceId]
  refine step_sendX X K c (s := 0) (by decide) rfl (dev_x (k0_dev4_eq c)) (off1 c 0) rfl rfl rfl ?_
  exact hf _ trivial

/-- Part 4 of the program. -/
theorem part4 (v5 v8 v9 : BitVec 32) :
    Goes X K c 5 8 (k0_part4 (F := F) xM (Memref.isWhole_whole _) oM (Memref.isWhole_whole _) pM (Memref.isWhole_whole _) cc0_scratch1 cc0_scratch2 c v5 v8 v9)
      (fun _ => True) := by
  intro α Q f hf
  rw [k0_part4_eq_skeleton]; unfold k0_part4_skel
  simp only [semSignalWord, semWaitWord, Prog.lift, Prog.bind_op, Prog.bind_ret, Prog.pure_eq_ret, wp_deviceId]
  refine step_sendX X K c (s := 1) (by decide) rfl (dev_x (k0_dev5_eq c)) (off1 c 1) rfl rfl rfl ?_
  refine step_sendX X K c (s := 2) (by decide) rfl (dev_x (k0_dev6_eq c)) (off1 c 2) rfl rfl rfl ?_
  refine step_sendX X K c (s := 3) (by decide) rfl (dev_x (k0_dev7_eq c)) (off1 c 3) rfl rfl rfl ?_
  exact hf _ trivial

/-- Part 5 of the program. -/
theorem part5 (v5 v8 v9 : BitVec 32) :
    Goes X K c 8 10 (k0_part5 (F := F) xM (Memref.isWhole_whole _) oM (Memref.isWhole_whole _) pM (Memref.isWhole_whole _) cc0_scratch1 cc0_scratch2 c v5 v8 v9)
      (fun _ => True) := by
  intro α Q f hf
  rw [k0_part5_eq_skeleton]; unfold k0_part5_skel
  simp only [semSignalWord, semWaitWord, Prog.lift, Prog.bind_op, Prog.bind_ret, Prog.pure_eq_ret, wp_deviceId]
  refine step_sendX X K c (s := 4) (by decide) rfl (dev_x (k0_dev8_eq c)) (off1 c 4) rfl rfl rfl ?_
  refine step_sendX X K c (s := 5) (by decide) rfl (dev_x (k0_dev9_eq c)) (off1 c 5) rfl rfl rfl ?_
  exact hf _ trivial

/-- Part 6 of the program. -/
theorem part6 (v5 v8 v9 : BitVec 32) :
    Goes X K c 10 12 (k0_part6 (F := F) xM (Memref.isWhole_whole _) oM (Memref.isWhole_whole _) pM (Memref.isWhole_whole _) cc0_scratch1 cc0_scratch2 c v5 v8 v9)
      (fun _ => True) := by
  intro α Q f hf
  rw [k0_part6_eq_skeleton]; unfold k0_part6_skel
  simp only [semSignalWord, semWaitWord, Prog.lift, Prog.bind_op, Prog.bind_ret, Prog.pure_eq_ret, wp_deviceId]
  refine step_sendX X K c (s := 6) (by decide) rfl (dev_x (k0_dev10_eq c)) (off1 c 6) rfl rfl rfl ?_
  refine step_sendX X K c (s := 7) (by decide) rfl (dev_x (k0_dev11_eq c)) (off1 c 7) rfl rfl rfl ?_
  exact hf _ trivial

/-- Part 7 of the program. -/
theorem part7 (v5 v8 v9 : BitVec 32) :
    Goes X K c 12 15 (k0_part7 (F := F) xM (Memref.isWhole_whole _) oM (Memref.isWhole_whole _) pM (Memref.isWhole_whole _) cc0_scratch1 cc0_scratch2 c v5 v8 v9)
      (fun _ => True) := by
  intro α Q f hf
  rw [k0_part7_eq_skeleton]; unfold k0_part7_skel
  simp only [semSignalWord, semWaitWord, Prog.lift, Prog.bind_op, Prog.bind_ret, Prog.pure_eq_ret, wp_deviceId]
  refine step_sendX X K c (s := 8) (by decide) rfl (dev_x (k0_dev12_eq c)) (off2 c 0) rfl rfl rfl ?_
  refine step_sendX X K c (s := 9) (by decide) rfl (dev_x (k0_dev13_eq c)) (off2 c 1) rfl rfl rfl ?_
  refine step_sendX X K c (s := 10) (by decide) rfl (dev_x (k0_dev14_eq c)) (off2 c 2) rfl rfl rfl ?_
  exact hf _ trivial

/-- Part 8 of the program. -/
theorem part8 (v5 v8 v9 v13 v24 v225 c2_i32_155 : BitVec 32) :
    Goes X K c 15 18 (k0_part8 (F := F) xM (Memref.isWhole_whole _) oM (Memref.isWhole_whole _) pM (Memref.isWhole_whole _) cc0_scratch1 cc0_scratch2 c v5 v8 v9 v13 v24 v225 c2_i32_155)
      (fun _ => True) := by
  intro α Q f hf
  rw [k0_part8_eq_skeleton]; unfold k0_part8_skel
  simp only [semSignalWord, semWaitWord, Prog.lift, Prog.bind_op, Prog.bind_ret, Prog.pure_eq_ret, wp_deviceId]
  refine step_sendX X K c (s := 11) (by decide) rfl (dev_x (k0_dev15_eq c)) (off2 c 3) rfl rfl rfl ?_
  refine step_recv X K c (s := 0) rfl rfl rfl ?_
  refine step_loadX X K c (j := 0) rfl (off3 c 0) ?_
  refine step_loadP X K c (j := 0) rfl rfl ?_
  refine step_loadO X K c (j := 0) rfl (off4 c 0) fun _ => ?_
  refine step_store X K c (j := 0) rfl (off4 c 0) rfl ?_
  exact hf _ trivial

/-- Part 9 of the program. -/
theorem part9 (v2 v5 v8 v9 v10 v11 : BitVec 32) :
    Goes X K c 18 20 (k0_part9 (F := F) xM (Memref.isWhole_whole _) oM (Memref.isWhole_whole _) pM (Memref.isWhole_whole _) cc0_scratch1 cc0_scratch2 c v2 v5 v8 v9 v10 v11)
      (fun _ => True) := by
  intro α Q f hf
  rw [k0_part9_eq_skeleton]; unfold k0_part9_skel
  simp only [semSignalWord, semWaitWord, Prog.lift, Prog.bind_op, Prog.bind_ret, Prog.pure_eq_ret, wp_deviceId]
  refine step_sendO X K c (s := 12) (by decide) rfl (dev_y (k0_dev16_eq c)) (off5 c 0) rfl rfl ?_
  refine step_sendO X K c (s := 20) (by decide) rfl (dev_z (k0_dev17_eq c)) (off5 c 0) rfl rfl ?_
  exact hf _ trivial

/-- Part 10 of the program. -/
theorem part10 (v2 v5 v8 v10 v11 v13 v24 : BitVec 32) :
    Goes X K c 20 23 (k0_part10 (F := F) xM (Memref.isWhole_whole _) oM (Memref.isWhole_whole _) pM (Memref.isWhole_whole _) cc0_scratch1 cc0_scratch2 c v2 v5 v8 v10 v11 v13 v24)
      (fun _ => True) := by
  intro α Q f hf
  rw [k0_part10_eq_skeleton]; unfold k0_part10_skel
  simp only [semSignalWord, semWaitWord, Prog.lift, Prog.bind_op, Prog.bind_ret, Prog.pure_eq_ret, wp_deviceId]
  refine step_recv X K c (s := 1) rfl rfl rfl ?_
  refine step_loadX X K c (j := 1) rfl (off3 c 1) ?_
  refine step_loadP X K c (j := 1) rfl rfl ?_
  refine step_loadO X K c (j := 1) rfl (off4 c 1) fun _ => ?_
  refine step_store X K c (j := 1) rfl (off4 c 1) rfl ?_
  refine step_sendO X K c (s := 13) (by decide) rfl (dev_y (k0_dev18_eq c)) (off5 c 1) rfl rfl ?_
  exact hf _ trivial

/-- Part 11 of the program. -/
theorem part11 (v2 v5 v8 v9 v10 v13 v24 : BitVec 32) :
    Goes X K c 23 26 (k0_part11 (F := F) xM (Memref.isWhole_whole _) oM (Memref.isWhole_whole _) pM (Memref.isWhole_whole _) cc0_scratch1 cc0_scratch2 c v2 v5 v8 v9 v10 v13 v24)
      (fun _ => True) := by
  intro α Q f hf
  rw [k0_part11_eq_skeleton]; unfold k0_part11_skel
  simp only [semSignalWord, semWaitWord, Prog.lift, Prog.bind_op, Prog.bind_ret, Prog.pure_eq_ret, wp_deviceId]
  refine step_sendO X K c (s := 21) (by decide) rfl (dev_z (k0_dev19_eq c)) (off5 c 1) rfl rfl ?_
  refine step_recv X K c (s := 2) rfl rfl rfl ?_
  refine step_loadX X K c (j := 2) rfl (off3 c 2) ?_
  refine step_loadP X K c (j := 2) rfl rfl ?_
  refine step_loadO X K c (j := 2) rfl (off4 c 2) fun _ => ?_
  refine step_store X K c (j := 2) rfl (off4 c 2) rfl ?_
  exact hf _ trivial

/-- Part 12 of the program. -/
theorem part12 (v2 v5 v8 v9 v11 v13 v24 : BitVec 32) :
    Goes X K c 26 29 (k0_part12 (F := F) xM (Memref.isWhole_whole _) oM (Memref.isWhole_whole _) pM (Memref.isWhole_whole _) cc0_scratch1 cc0_scratch2 c v2 v5 v8 v9 v11 v13 v24)
      (fun r => r.2 = k0_pay4 (tile X c c 3)) := by
  intro α Q f hf
  rw [k0_part12_eq_skeleton]; unfold k0_part12_skel
  simp only [semSignalWord, semWaitWord, Prog.lift, Prog.bind_op, Prog.bind_ret, Prog.pure_eq_ret, wp_deviceId]
  refine step_sendO X K c (s := 14) (by decide) rfl (dev_y (k0_dev20_eq c)) (off5 c 2) rfl rfl ?_
  refine step_sendO X K c (s := 22) (by decide) rfl (dev_z (k0_dev21_eq c)) (off5 c 2) rfl rfl ?_
  refine step_recv X K c (s := 3) rfl rfl rfl ?_
  refine step_loadX X K c (j := 3) rfl (off3 c 3) ?_
  exact hf _ rfl

/-- Part 13 of the program. -/
theorem part13 (v2 v5 v8 v9 v10 v11 v392 : BitVec 32) :
    Goes X K c 29 32 (k0_part13 (F := F) xM (Memref.isWhole_whole _) oM (Memref.isWhole_whole _) pM (Memref.isWhole_whole _) cc0_scratch1 cc0_scratch2 c v2 v5 v8 v9 v10 v11 v392 (k0_pay4 (tile X c c 3)))
      (fun _ => True) := by
  intro α Q f hf
  rw [k0_part13_eq_skeleton]; unfold k0_part13_skel
  simp only [semSignalWord, semWaitWord, Prog.lift, Prog.bind_op, Prog.bind_ret, Prog.pure_eq_ret, wp_deviceId]
  refine step_loadP X K c (j := 3) rfl rfl ?_
  refine step_loadO X K c (j := 3) rfl (off4 c 3) fun _ => ?_
  refine step_store X K c (j := 3) rfl (off4 c 3) rfl ?_
  refine step_sendO X K c (s := 15) (by decide) rfl (dev_y (k0_dev22_eq c)) (off5 c 3) rfl rfl ?_
  refine step_sendO X K c (s := 23) (by decide) rfl (dev_z (k0_dev23_eq c)) (off5 c 3) rfl rfl ?_
  exact hf _ trivial

/-- Part 14 of the program. -/
theorem part14 (v2 v5 v8 v10 v13 v24 v427 : BitVec 32) :
    Goes X K c 32 35 (k0_part14 (F := F) xM (Memref.isWhole_whole _) oM (Memref.isWhole_whole _) pM (Memref.isWhole_whole _) cc0_scratch1 cc0_scratch2 c v2 v5 v8 v10 v13 v24 v427)
      (fun _ => True) := by
  intro α Q f hf
  rw [k0_part14_eq_skeleton]; unfold k0_part14_skel
  simp only [semSignalWord, semWaitWord, Prog.lift, Prog.bind_op, Prog.bind_ret, Prog.pure_eq_ret, wp_deviceId]
  refine step_recv X K c (s := 4) rfl rfl rfl ?_
  refine step_loadX X K c (j := 4) rfl (off3 c 4) ?_
  refine step_loadP X K c (j := 4) rfl rfl ?_
  refine step_loadO X K c (j := 4) rfl (off4 c 4) fun _ => ?_
  refine step_store X K c (j := 4) rfl (off4 c 4) rfl ?_
  refine step_sendO X K c (s := 16) (by decide) rfl (dev_y (k0_dev24_eq c)) (off5 c 4) rfl rfl ?_
  exact hf _ trivial

/-- Part 15 of the program. -/
theorem part15 (v5 v8 v9 v11 v13 v24 v461 c0_i32_304 : BitVec 32) :
    Goes X K c 35 38 (k0_part15 (F := F) xM (Memref.isWhole_whole _) oM (Memref.isWhole_whole _) pM (Memref.isWhole_whole _) cc0_scratch1 cc0_scratch2 c v5 v8 v9 v11 v13 v24 v461 c0_i32_304)
      (fun _ => True) := by
  intro α Q f hf
  rw [k0_part15_eq_skeleton]; unfold k0_part15_skel
  simp only [semSignalWord, semWaitWord, Prog.lift, Prog.bind_op, Prog.bind_ret, Prog.pure_eq_ret, wp_deviceId]
  refine step_sendO X K c (s := 24) (by decide) rfl (dev_z (k0_dev25_eq c)) (off5 c 4) rfl rfl ?_
  refine step_recv X K c (s := 5) rfl rfl rfl ?_
  refine step_loadX X K c (j := 5) rfl (off3 c 5) ?_
  refine step_loadP X K c (j := 5) rfl rfl ?_
  refine step_loadO X K c (j := 5) rfl (off4 c 5) fun _ => ?_
  refine step_store X K c (j := 5) rfl (off4 c 5) rfl ?_
  exact hf _ trivial

/-- Part 16 of the program. -/
theorem part16 (v2 v5 v8 v9 v10 v11 : BitVec 32) :
    Goes X K c 38 40 (k0_part16 (F := F) xM (Memref.isWhole_whole _) oM (Memref.isWhole_whole _) pM (Memref.isWhole_whole _) cc0_scratch1 cc0_scratch2 c v2 v5 v8 v9 v10 v11)
      (fun _ => True) := by
  intro α Q f hf
  rw [k0_part16_eq_skeleton]; unfold k0_part16_skel
  simp only [semSignalWord, semWaitWord, Prog.lift, Prog.bind_op, Prog.bind_ret, Prog.pure_eq_ret, wp_deviceId]
  refine step_sendO X K c (s := 17) (by decide) rfl (dev_y (k0_dev26_eq c)) (off5 c 5) rfl rfl ?_
  refine step_sendO X K c (s := 25) (by decide) rfl (dev_z (k0_dev27_eq c)) (off5 c 5) rfl rfl ?_
  exact hf _ trivial

/-- Part 17 of the program. -/
theorem part17 (v2 v5 v8 v10 v11 v13 v24 : BitVec 32) :
    Goes X K c 40 43 (k0_part17 (F := F) xM (Memref.isWhole_whole _) oM (Memref.isWhole_whole _) pM (Memref.isWhole_whole _) cc0_scratch1 cc0_scratch2 c v2 v5 v8 v10 v11 v13 v24)
      (fun _ => True) := by
  intro α Q f hf
  rw [k0_part17_eq_skeleton]; unfold k0_part17_skel
  simp only [semSignalWord, semWaitWord, Prog.lift, Prog.bind_op, Prog.bind_ret, Prog.pure_eq_ret, wp_deviceId]
  refine step_recv X K c (s := 6) rfl rfl rfl ?_
  refine step_loadX X K c (j := 6) rfl (off3 c 6) ?_
  refine step_loadP X K c (j := 6) rfl rfl ?_
  refine step_loadO X K c (j := 6) rfl (off4 c 6) fun _ => ?_
  refine step_store X K c (j := 6) rfl (off4 c 6) rfl ?_
  refine step_sendO X K c (s := 18) (by decide) rfl (dev_y (k0_dev28_eq c)) (off5 c 6) rfl rfl ?_
  exact hf _ trivial

/-- Part 18 of the program. -/
theorem part18 (v2 v5 v8 v9 v10 v13 v24 : BitVec 32) :
    Goes X K c 43 46 (k0_part18 (F := F) xM (Memref.isWhole_whole _) oM (Memref.isWhole_whole _) pM (Memref.isWhole_whole _) cc0_scratch1 cc0_scratch2 c v2 v5 v8 v9 v10 v13 v24)
      (fun _ => True) := by
  intro α Q f hf
  rw [k0_part18_eq_skeleton]; unfold k0_part18_skel
  simp only [semSignalWord, semWaitWord, Prog.lift, Prog.bind_op, Prog.bind_ret, Prog.pure_eq_ret, wp_deviceId]
  refine step_sendO X K c (s := 26) (by decide) rfl (dev_z (k0_dev29_eq c)) (off5 c 6) rfl rfl ?_
  refine step_recv X K c (s := 7) rfl rfl rfl ?_
  refine step_loadX X K c (j := 7) rfl (off3 c 7) ?_
  refine step_loadP X K c (j := 7) rfl rfl ?_
  refine step_loadO X K c (j := 7) rfl (off4 c 7) fun _ => ?_
  refine step_store X K c (j := 7) rfl (off4 c 7) rfl ?_
  exact hf _ trivial

/-- Part 19 of the program. -/
theorem part19 (v2 v5 v10 v11 v19 : BitVec 32) :
    Goes X K c 46 49 (k0_part19 (F := F) xM (Memref.isWhole_whole _) oM (Memref.isWhole_whole _) pM (Memref.isWhole_whole _) cc0_scratch1 cc0_scratch2 c v2 v5 v10 v11 v19)
      (fun _ => True) := by
  intro α Q f hf
  rw [k0_part19_eq_skeleton]; unfold k0_part19_skel
  simp only [semSignalWord, semWaitWord, Prog.lift, Prog.bind_op, Prog.bind_ret, Prog.pure_eq_ret, wp_deviceId]
  refine step_sendO X K c (s := 19) (by decide) rfl (dev_y (k0_dev30_eq c)) (off5 c 7) rfl rfl ?_
  refine step_sendO X K c (s := 27) (by decide) rfl (dev_z (k0_dev31_eq c)) (off5 c 7) rfl rfl ?_
  refine step_recv X K c (s := 24) rfl rfl rfl ?_
  exact hf _ trivial

/-- Part 20 of the program. -/
theorem part20 (v2 v5 v8 v10 v11 v19 v629 : BitVec 32) :
    Goes X K c 49 52 (k0_part20 (F := F) xM (Memref.isWhole_whole _) oM (Memref.isWhole_whole _) pM (Memref.isWhole_whole _) cc0_scratch1 cc0_scratch2 c v2 v5 v8 v10 v11 v19 v629)
      (fun _ => True) := by
  intro α Q f hf
  rw [k0_part20_eq_skeleton]; unfold k0_part20_skel
  simp only [semSignalWord, semWaitWord, Prog.lift, Prog.bind_op, Prog.bind_ret, Prog.pure_eq_ret, wp_deviceId]
  refine step_sendO X K c (s := 28) (by decide) rfl (dev_y (k0_dev32_eq c)) (off6 c 0) rfl rfl ?_
  refine step_recv X K c (s := 25) rfl rfl rfl ?_
  refine step_sendO X K c (s := 29) (by decide) rfl (dev_y (k0_dev33_eq c)) (off6 c 1) rfl rfl ?_
  exact hf _ trivial

/-- Part 21 of the program. -/
theorem part21 (v2 v5 v8 v10 v11 v16 v662 : BitVec 32) :
    Goes X K c 52 55 (k0_part21 (F := F) xM (Memref.isWhole_whole _) oM (Memref.isWhole_whole _) pM (Memref.isWhole_whole _) cc0_scratch1 cc0_scratch2 c v2 v5 v8 v10 v11 v16 v662)
      (fun _ => True) := by
  intro α Q f hf
  rw [k0_part21_eq_skeleton]; unfold k0_part21_skel
  simp only [semSignalWord, semWaitWord, Prog.lift, Prog.bind_op, Prog.bind_ret, Prog.pure_eq_ret, wp_deviceId]
  refine step_recv X K c (s := 18) rfl rfl rfl ?_
  refine step_sendO X K c (s := 30) (by decide) rfl (dev_z (k0_dev34_eq c)) (off7 c 0) rfl rfl ?_
  refine step_recv X K c (s := 19) rfl rfl rfl ?_
  exact hf _ trivial

/-- Part 22 of the program. -/
theorem part22 (v2 v5 v8 v9 v11 v16 v23 v24 c256_i32_458 : BitVec 32) :
    Goes X K c 55 57 (k0_part22 (F := F) xM (Memref.isWhole_whole _) oM (Memref.isWhole_whole _) pM (Memref.isWhole_whole _) cc0_scratch1 cc0_scratch2 c v2 v5 v8 v9 v11 v16 v23 v24 c256_i32_458)
      (fun r => r.2 = ⟨k0_pay10 (tile X c c 8), tile X c (nb 0 c) 8⟩) := by
  intro α Q f hf
  rw [k0_part22_eq_skeleton]; unfold k0_part22_skel
  simp only [semSignalWord, semWaitWord, Prog.lift, Prog.bind_op, Prog.bind_ret, Prog.pure_eq_ret, wp_deviceId]
  refine step_sendO X K c (s := 31) (by decide) rfl (dev_z (k0_dev35_eq c)) (off7 c 1) rfl rfl ?_
  refine step_recv X K c (s := 8) rfl rfl rfl ?_
  refine step_loadX X K c (j := 8) rfl (off8 c 0) ?_
  refine step_loadP X K c (j := 8) rfl rfl ?_
  exact hf _ rfl

/-- Part 23 of the program. -/
theorem part23 (v5 v8 v9 v23 v24 v723 : BitVec 32) :
    Goes X K c 57 60 (k0_part23 (F := F) xM (Memref.isWhole_whole _) oM (Memref.isWhole_whole _) pM (Memref.isWhole_whole _) cc0_scratch1 cc0_scratch2 c v5 v8 v9 v23 v24 v723 (k0_pay10 (tile X c c 8)) (tile X c (nb 0 c) 8))
      (fun _ => True) := by
  intro α Q f hf
  rw [k0_part23_eq_skeleton]; unfold k0_part23_skel
  simp only [semSignalWord, semWaitWord, Prog.lift, Prog.bind_op, Prog.bind_ret, Prog.pure_eq_ret, wp_deviceId]
  refine step_loadO X K c (j := 8) rfl (off9 c 0) fun _ => ?_
  refine step_store X K c (j := 8) rfl (off9 c 0) rfl ?_
  refine step_recv X K c (s := 9) rfl rfl rfl ?_
  refine step_loadX X K c (j := 9) rfl (off8 c 1) ?_
  refine step_loadP X K c (j := 9) rfl rfl ?_
  refine step_loadO X K c (j := 9) rfl (off9 c 1) fun _ => ?_
  refine step_store X K c (j := 9) rfl (off9 c 1) rfl ?_
  exact hf _ trivial

/-- Part 24 of the program. -/
theorem part24 (v5 v8 v9 v23 v24 v759 c1_i32_506 : BitVec 32) :
    Goes X K c 60 63 (k0_part24 (F := F) xM (Memref.isWhole_whole _) oM (Memref.isWhole_whole _) pM (Memref.isWhole_whole _) cc0_scratch1 cc0_scratch2 c v5 v8 v9 v23 v24 v759 c1_i32_506)
      (fun _ => True) := by
  intro α Q f hf
  rw [k0_part24_eq_skeleton]; unfold k0_part24_skel
  simp only [semSignalWord, semWaitWord, Prog.lift, Prog.bind_op, Prog.bind_ret, Prog.pure_eq_ret, wp_deviceId]
  refine step_recv X K c (s := 10) rfl rfl rfl ?_
  refine step_loadX X K c (j := 10) rfl (off8 c 2) ?_
  refine step_loadP X K c (j := 10) rfl rfl ?_
  refine step_loadO X K c (j := 10) rfl (off9 c 2) fun _ => ?_
  refine step_store X K c (j := 10) rfl (off9 c 2) rfl ?_
  refine step_recv X K c (s := 11) rfl rfl rfl ?_
  exact hf _ trivial

/-- Part 25 of the program. -/
theorem part25 (v2 v5 v8 v10 v11 v792 : BitVec 32) :
    Goes X K c 63 66 (k0_part25 (F := F) xM (Memref.isWhole_whole _) oM (Memref.isWhole_whole _) pM (Memref.isWhole_whole _) cc0_scratch1 cc0_scratch2 c v2 v5 v8 v10 v11 v792)
      (fun _ => True) := by
  intro α Q f hf
  rw [k0_part25_eq_skeleton]; unfold k0_part25_skel
  simp only [semSignalWord, semWaitWord, Prog.lift, Prog.bind_op, Prog.bind_ret, Prog.pure_eq_ret, wp_deviceId]
  refine step_loadX X K c (j := 11) rfl (off8 c 3) ?_
  refine step_loadP X K c (j := 11) rfl rfl ?_
  refine step_loadO X K c (j := 11) rfl (off9 c 3) fun _ => ?_
  refine step_store X K c (j := 11) rfl (off9 c 3) rfl ?_
  refine step_recv X K c (s := 12) rfl rfl rfl ?_
  refine step_recv X K c (s := 20) rfl rfl rfl ?_
  exact hf _ trivial

/-- Part 26 of the program. -/
theorem part26 (v2 v5 v8 v10 v11 v825 c1_i32_552 : BitVec 32) :
    Goes X K c 66 69 (k0_part26 (F := F) xM (Memref.isWhole_whole _) oM (Memref.isWhole_whole _) pM (Memref.isWhole_whole _) cc0_scratch1 cc0_scratch2 c v2 v5 v8 v10 v11 v825 c1_i32_552)
      (fun _ => True) := by
  intro α Q f hf
  rw [k0_part26_eq_skeleton]; unfold k0_part26_skel
  simp only [semSignalWord, semWaitWord, Prog.lift, Prog.bind_op, Prog.bind_ret, Prog.pure_eq_ret, wp_deviceId]
  refine step_recv X K c (s := 13) rfl rfl rfl ?_
  refine step_recv X K c (s := 21) rfl rfl rfl ?_
  refine step_recv X K c (s := 14) rfl rfl rfl ?_
  exact hf _ trivial

/-- Part 27 of the program. -/
theorem part27 (v2 v5 v8 v10 v11 : BitVec 32) :
    Goes X K c 69 72 (k0_part27 (F := F) xM (Memref.isWhole_whole _) oM (Memref.isWhole_whole _) pM (Memref.isWhole_whole _) cc0_scratch1 cc0_scratch2 c v2 v5 v8 v10 v11)
      (fun _ => True) := by
  intro α Q f hf
  rw [k0_part27_eq_skeleton]; unfold k0_part27_skel
  simp only [semSignalWord, semWaitWord, Prog.lift, Prog.bind_op, Prog.bind_ret, Prog.pure_eq_ret, wp_deviceId]
  refine step_recv X K c (s := 22) rfl rfl rfl ?_
  refine step_recv X K c (s := 15) rfl rfl rfl ?_
  refine step_recv X K c (s := 23) rfl rfl rfl ?_
  exact hf _ trivial

/-- Part 28 of the program. -/
theorem part28 (v2 v5 v8 v10 v11 : BitVec 32) :
    Goes X K c 72 76 (k0_part28 (F := F) xM (Memref.isWhole_whole _) oM (Memref.isWhole_whole _) pM (Memref.isWhole_whole _) cc0_scratch1 cc0_scratch2 c v2 v5 v8 v10 v11)
      (fun _ => True) := by
  intro α Q f hf
  rw [k0_part28_eq_skeleton]; unfold k0_part28_skel
  simp only [semSignalWord, semWaitWord, Prog.lift, Prog.bind_op, Prog.bind_ret, Prog.pure_eq_ret, wp_deviceId]
  refine step_recv X K c (s := 16) rfl rfl rfl ?_
  refine step_recv X K c (s := 17) rfl rfl rfl ?_
  refine step_recv X K c (s := 26) rfl rfl rfl ?_
  refine step_recv X K c (s := 27) rfl rfl rfl ?_
  exact hf _ trivial

/-- Part 29 of the program. -/
theorem part29 (v2 v5 v8 v10 v11 : BitVec 32) :
    Goes X K c 76 79 (k0_part29 (F := F) xM (Memref.isWhole_whole _) oM (Memref.isWhole_whole _) pM (Memref.isWhole_whole _) cc0_scratch1 cc0_scratch2 c v2 v5 v8 v10 v11)
      (fun _ => True) := by
  intro α Q f hf
  rw [k0_part29_eq_skeleton]; unfold k0_part29_skel
  simp only [semSignalWord, semWaitWord, Prog.lift, Prog.bind_op, Prog.bind_ret, Prog.pure_eq_ret, wp_deviceId]
  refine step_recv X K c (s := 28) rfl rfl rfl ?_
  refine step_recv X K c (s := 29) rfl rfl rfl ?_
  refine step_recv X K c (s := 30) rfl rfl rfl ?_
  exact hf _ trivial

/-- Part 30 of the program. -/
theorem part30 (v2 v5 v11 c4_i32_653 : BitVec 32) :
    Goes X K c 79 83 (k0_part30 (F := F) xM (Memref.isWhole_whole _) oM (Memref.isWhole_whole _) pM (Memref.isWhole_whole _) cc0_scratch1 cc0_scratch2 c v2 v5 v11 c4_i32_653)
      (fun _ => True) := by
  intro α Q f hf
  rw [k0_part30_eq_skeleton]; unfold k0_part30_skel
  simp only [semSignalWord, semWaitWord, Prog.lift, Prog.bind_op, Prog.bind_ret, Prog.pure_eq_ret, wp_deviceId]
  refine step_recv X K c (s := 31) rfl rfl rfl ?_
  refine step_done X K c (s := 0) rfl rfl rfl ?_
  refine step_done X K c (s := 1) rfl rfl rfl ?_
  refine step_done X K c (s := 2) rfl rfl rfl ?_
  exact hf _ trivial

/-- Part 31 of the program. -/
theorem part31 :
    Goes X K c 83 87 (k0_part31 (F := F) xM (Memref.isWhole_whole _) oM (Memref.isWhole_whole _) pM (Memref.isWhole_whole _) cc0_scratch1 cc0_scratch2 c)
      (fun _ => True) := by
  intro α Q f hf
  rw [k0_part31_eq_skeleton]; unfold k0_part31_skel
  simp only [semSignalWord, semWaitWord, Prog.lift, Prog.bind_op, Prog.bind_ret, Prog.pure_eq_ret, wp_deviceId]
  refine step_done X K c (s := 3) rfl rfl rfl ?_
  refine step_done X K c (s := 4) rfl rfl rfl ?_
  refine step_done X K c (s := 5) rfl rfl rfl ?_
  refine step_done X K c (s := 6) rfl rfl rfl ?_
  exact hf _ trivial

/-- Part 32 of the program. -/
theorem part32 :
    Goes X K c 87 91 (k0_part32 (F := F) xM (Memref.isWhole_whole _) oM (Memref.isWhole_whole _) pM (Memref.isWhole_whole _) cc0_scratch1 cc0_scratch2 c)
      (fun _ => True) := by
  intro α Q f hf
  rw [k0_part32_eq_skeleton]; unfold k0_part32_skel
  simp only [semSignalWord, semWaitWord, Prog.lift, Prog.bind_op, Prog.bind_ret, Prog.pure_eq_ret, wp_deviceId]
  refine step_done X K c (s := 7) rfl rfl rfl ?_
  refine step_done X K c (s := 8) rfl rfl rfl ?_
  refine step_done X K c (s := 9) rfl rfl rfl ?_
  refine step_done X K c (s := 10) rfl rfl rfl ?_
  exact hf _ trivial

/-- Part 33 of the program. -/
theorem part33 :
    Goes X K c 91 97 (k0_part33 (F := F) xM (Memref.isWhole_whole _) oM (Memref.isWhole_whole _) pM (Memref.isWhole_whole _) cc0_scratch1 cc0_scratch2 c)
      (fun _ => True) := by
  intro α Q f hf
  rw [k0_part33_eq_skeleton]; unfold k0_part33_skel
  simp only [semSignalWord, semWaitWord, Prog.lift, Prog.bind_op, Prog.bind_ret, Prog.pure_eq_ret, wp_deviceId]
  refine step_done X K c (s := 11) rfl rfl rfl ?_
  refine step_done X K c (s := 12) rfl rfl rfl ?_
  refine step_done X K c (s := 20) rfl rfl rfl ?_
  refine step_done X K c (s := 13) rfl rfl rfl ?_
  refine step_done X K c (s := 21) rfl rfl rfl ?_
  refine step_done X K c (s := 14) rfl rfl rfl ?_
  exact hf _ trivial

/-- Part 34 of the program. -/
theorem part34 :
    Goes X K c 97 103 (k0_part34 (F := F) xM (Memref.isWhole_whole _) oM (Memref.isWhole_whole _) pM (Memref.isWhole_whole _) cc0_scratch1 cc0_scratch2 c)
      (fun _ => True) := by
  intro α Q f hf
  rw [k0_part34_eq_skeleton]; unfold k0_part34_skel
  simp only [semSignalWord, semWaitWord, Prog.lift, Prog.bind_op, Prog.bind_ret, Prog.pure_eq_ret, wp_deviceId]
  refine step_done X K c (s := 22) rfl rfl rfl ?_
  refine step_done X K c (s := 15) rfl rfl rfl ?_
  refine step_done X K c (s := 23) rfl rfl rfl ?_
  refine step_done X K c (s := 16) rfl rfl rfl ?_
  refine step_done X K c (s := 24) rfl rfl rfl ?_
  refine step_done X K c (s := 17) rfl rfl rfl ?_
  exact hf _ trivial

/-- Part 35 of the program. -/
theorem part35 :
    Goes X K c 103 109 (k0_part35 (F := F) xM (Memref.isWhole_whole _) oM (Memref.isWhole_whole _) pM (Memref.isWhole_whole _) cc0_scratch1 cc0_scratch2 c)
      (fun _ => True) := by
  intro α Q f hf
  rw [k0_part35_eq_skeleton]; unfold k0_part35_skel
  simp only [semSignalWord, semWaitWord, Prog.lift, Prog.bind_op, Prog.bind_ret, Prog.pure_eq_ret, wp_deviceId]
  refine step_done X K c (s := 25) rfl rfl rfl ?_
  refine step_done X K c (s := 18) rfl rfl rfl ?_
  refine step_done X K c (s := 26) rfl rfl rfl ?_
  refine step_done X K c (s := 19) rfl rfl rfl ?_
  refine step_done X K c (s := 27) rfl rfl rfl ?_
  refine step_done X K c (s := 28) rfl rfl rfl ?_
  exact hf _ trivial

/-- The program as a whole: from what a device has before its first event to what it has after its last. -/
theorem body {Q : PUnit → sProp 𝕄} (hQ : SS X K c 112 ⊢ |={Set.univ}=> Q ⟨⟩) :
    SS X K c 0 ⊢ Runs c (cc0_body (F := F) xM (Memref.isWhole_whole _) oM (Memref.isWhole_whole _) pM (Memref.isWhole_whole _) cc0_scratch1 cc0_scratch2) Q := by
  rw [cc0_body_eq_skeleton]; unfold cc0_body_skel
  refine part1 X K c _ ?_
  rintro _ ⟨v2, v5, v8, v9, v10, v11, v13, v16, v19, v23, v24, v32, rfl⟩
  refine part2 X K c _ _ _ _ _ _ _ _ fun _ _ => ?_
  refine part3 X K c _ _ _ _ _ fun _ _ => ?_
  refine part4 X K c _ _ _ _ fun _ _ => ?_
  refine part5 X K c _ _ _ _ fun _ _ => ?_
  refine part6 X K c _ _ _ _ fun _ _ => ?_
  refine part7 X K c _ _ _ _ fun _ _ => ?_
  refine part8 X K c _ _ _ _ _ _ _ _ fun _ _ => ?_
  refine part9 X K c _ _ _ _ _ _ _ fun _ _ => ?_
  refine part10 X K c _ _ _ _ _ _ _ _ fun _ _ => ?_
  refine part11 X K c _ _ _ _ _ _ _ _ fun _ _ => ?_
  refine part12 X K c _ _ _ _ _ _ _ _ ?_
  rintro ⟨v392, _⟩ rfl
  refine part13 X K c _ _ _ _ _ _ _ _ fun _ _ => ?_
  refine part14 X K c _ _ _ _ _ _ _ _ fun _ _ => ?_
  refine part15 X K c _ _ _ _ _ _ _ _ _ fun _ _ => ?_
  refine part16 X K c _ _ _ _ _ _ _ fun _ _ => ?_
  refine part17 X K c _ _ _ _ _ _ _ _ fun _ _ => ?_
  refine part18 X K c _ _ _ _ _ _ _ _ fun _ _ => ?_
  refine part19 X K c _ _ _ _ _ _ fun _ _ => ?_
  refine part20 X K c _ _ _ _ _ _ _ _ fun _ _ => ?_
  refine part21 X K c _ _ _ _ _ _ _ _ fun _ _ => ?_
  refine part22 X K c _ _ _ _ _ _ _ _ _ _ ?_
  rintro ⟨v723, _⟩ rfl
  refine part23 X K c _ _ _ _ _ _ _ fun _ _ => ?_
  refine part24 X K c _ _ _ _ _ _ _ _ fun _ _ => ?_
  refine part25 X K c _ _ _ _ _ _ _ fun _ _ => ?_
  refine part26 X K c _ _ _ _ _ _ _ _ fun _ _ => ?_
  refine part27 X K c _ _ _ _ _ _ fun _ _ => ?_
  refine part28 X K c _ _ _ _ _ _ fun _ _ => ?_
  refine part29 X K c _ _ _ _ _ _ fun _ _ => ?_
  refine part30 X K c _ _ _ _ _ fun _ _ => ?_
  refine part31 X K c _ fun _ _ => ?_
  refine part32 X K c _ fun _ _ => ?_
  refine part33 X K c _ fun _ _ => ?_
  refine part34 X K c _ fun _ _ => ?_
  refine part35 X K c _ fun _ _ => ?_
  simp only [Prog.lift, Prog.bind_op, Prog.bind_ret, Prog.pure_eq_ret]
  refine step_done X K c (s := 29) rfl rfl rfl ?_
  refine step_done X K c (s := 30) rfl rfl rfl ?_
  refine step_done X K c (s := 31) rfl rfl rfl ?_
  unfold Runs
  rw [wp_ret]
  exact hQ

end parts

end Cert.KernelIdealProof
-- ==== Proof.KernelIdealEnds.lean ====
/-
# The two ends of a device's program

What a device is given, cut up into its initial tokens; and its final tokens, put together again into whole buffers
and semaphores at zero.
-/
module

public import proofs.«01_k».proof.Proof.KernelIdealBody
public import Idealize.ShloMosaic.Lib.Pipeline.BigSepL

@[expose] public section

noncomputable section

namespace Cert.KernelIdealProof

open Cert.KernelIdeal Cert.KernelIdeal.Gen
open Cert.Mesh (nb half quarter sumBlk axis sendBlk recvBlk owner Token level steps held Step owing arrival slots)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over slots and cells -/

/-- A conjunction over the list of all slots. -/
theorem bigSepL_slots (Φ : Fin 32 → sProp 𝕄) : bigSepL slots Φ = bigSep Finset.univ Φ :=
  (bigSep_univ_eq_bigSepL slots (by ext a; simp [slots]) (List.nodup_finRange 32) Φ).symm
/-- A conjunction over the list of the first twelve. -/
theorem bigSepL_low (Φ : Fin 32 → sProp 𝕄) : bigSepL Mesh.low Φ = bigSep Finset.univ fun k : Fin 12 => Φ (Mesh.idx k) := by
  unfold Mesh.low
  rw [bigSepL_map]
  exact (bigSep_univ_eq_bigSepL (List.finRange 12) (by ext a; simp) (List.nodup_finRange 12) _).symm
/-- A conjunction over lists strung together. -/
theorem bigSepL_flat {I J : Type} (l : List I) (g : I → List J) (Φ : J → sProp 𝕄) :
    bigSepL (l.flatMap g) Φ = bigSepL l fun i => bigSepL (g i) Φ := by
  induction l with
  | nil => rfl
  | cons i l ih => rw [List.flatMap_cons, bigSepL_append, bigSepL_cons, ih]; rfl

/-- A conjunction over the slots: the first twelve and the others. -/
theorem split12 (Φ : Fin 32 → sProp 𝕄) : bigSep Finset.univ Φ
    = iprop((bigSep Finset.univ fun k : Fin 12 => Φ (Mesh.idx k)) ∗ bigSep (Finset.univ.filter fun s : Fin 32 => ¬ s.val < 12) Φ) := by
  rw [bigSep_filter_split Finset.univ (fun s : Fin 32 => s.val < 12),
    show (Finset.univ.filter fun s : Fin 32 => s.val < 12) = Finset.univ.map ⟨Mesh.idx, fun a b h => by revert a b; decide⟩ from by decide,
    bigSep_map]
  rfl

/-- A conjunction over the cells of a device: the barrier, the sends, the arrivals. -/
theorem bigSep_role (Φ : Role → sProp 𝕄) : bigSep Finset.univ Φ
    = iprop(Φ none ∗ (bigSep Finset.univ fun s => Φ (some (false, s))) ∗ bigSep Finset.univ fun s => Φ (some (true, s))) := by
  rw [show (Finset.univ : Finset Role) = insert none (Finset.univ.map ⟨some, Option.some_injective _⟩) from by
      ext r; cases r <;> simp,
    bigSep_insert (by simp), bigSep_map, bigSep_univ_prod, bigSep_univ_eq_bigSepL [false, true] (by decide) (by decide)]
  rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What persists may be used for every member of a conjunction. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The buffers as blocks -/

/-- The blocks of the result. -/
theorem rows_all (c : Dev nD) : (Finset.univ.biUnion fun t : Fin 32 => rows (Mesh.rowBlk c t)) = Finset.univ := by
  ext i
  have hi : (i 0).val < 1024 := (i 0).isLt
  obtain ⟨t, ht⟩ := Mesh.rowBlk_surj c ⟨(i 0).val / 32, by omega⟩
  exact iff_of_true (Finset.mem_biUnion.mpr ⟨t, Finset.mem_univ t, mem_rows.mpr ht.symm⟩) (Finset.mem_univ i)
/-- The slabs of the landing buffer. -/
theorem slab_all : (Finset.univ.biUnion fun k : Fin 12 => slab k.val) = Finset.univ := by
  ext i
  exact iff_of_true (Finset.mem_biUnion.mpr ⟨i 0, Finset.mem_univ _, mem_slab.mpr rfl⟩) (Finset.mem_univ i)

/-- The result on a device, as its blocks. -/
theorem oPts_blocks (c : Dev nD) (f : OBuf F) :
    oPts c Finset.univ fullShare f = bigSep Finset.univ fun t : Fin 32 => oPts c (rows (Mesh.rowBlk c t)) fullShare f := by
  unfold oPts
  rw [← rows_all c]
  exact pointsTo_biUnion _ _ fun t _ t' _ ht => Finset.disjoint_left.mpr fun i hi hi' =>
    ht (Mesh.rowBlk_inj c t t' ((mem_rows.mp hi).symm.trans (mem_rows.mp hi')))
/-- The landing buffer of a device, as its slabs. -/
theorem pPts_slabs (c : Dev nD) (f : PBuf F) :
    pPts c Finset.univ f = bigSep Finset.univ fun k : Fin 12 => pPts c (slab k.val) f := by
  unfold pPts
  rw [← slab_all]
  exact pointsTo_biUnion _ _ fun t _ t' _ ht => Finset.disjoint_left.mpr fun i hi hi' =>
    ht (Fin.ext ((mem_slab.mp hi).symm.trans (mem_slab.mp hi')))
/-- The addends of a device: the parts it sends and the rest. -/
theorem xPts_parts (c : Dev nD) (f : XBuf F) :
    xPts c Finset.univ fullShare f = iprop((bigSep Finset.univ fun k : Fin 12 => xPts c (xSend c k) fullShare f) ∗ xPts c (xRest c) fullShare f) := by
  unfold xPts
  have hd : ∀ t ∈ (Finset.univ : Finset (Fin 12)), ∀ t' ∈ (Finset.univ : Finset (Fin 12)), t ≠ t' → Disjoint (xSend c t) (xSend c t') :=
    fun t _ t' _ ht => Finset.disjoint_left.mpr fun i hi hi' =>
      ht (Mesh.sumBlk_inj c t t' ((mem_xpart.mp hi).1.symm.trans (mem_xpart.mp hi').1))
  rw [← pointsTo_biUnion _ _ hd]
  have hs := pointsTo_split_subset (Ix := Unit) (Name := ℕ) (U := UU) (Lvl := ℕ) (ℓ := (c : Thread nD τ).loc cc0_stg0_0) (q := fullShare) (f := f)
    (Finset.subset_univ (Finset.univ.biUnion (xSend c)))
  exact Entails.antisymm hs.1 hs.2

/-! ## The start -/

section Ends
variable (X : Dev nD → XBuf F) (K : Dev nD × Role → ℕ) (c : Dev nD)

/-- The duties device `c` pays: its signals, and the two ends of its copies. -/
def toks : sProp 𝕄 :=
  iprop((bigSep Finset.univ fun a : Fin 3 => dutyTok ER (barCell (nb a c)) 0 a)
    ∗ (bigSep Finset.univ fun s : Fin 32 => dutyTok ER (sendCell c s) 0 (0 : Fin 3))
    ∗ bigSep Finset.univ fun s : Fin 32 => dutyTok ER (recvCell (nb (axis s) c) s) 0 (0 : Fin 3))

/-- Device `c`'s place at each of its own cells, at round `r`. -/
def places (r : ℕ) : sProp 𝕄 := bigSep Finset.univ fun k : Role => atPos ER (kcell (c, k)) r (∅ : Finset (Fin 3)) 0

/-- What others owe device `c`: three signals, and the arrivals. -/
def credits : sProp 𝕄 :=
  iprop(cred (tallyAt (barCell c) () 3) ∗ bigSep Finset.univ fun s : Fin 32 => cred (tallyAt (recvCell c s) () N))

/-- Result and landing buffer, at whatever contents, are all landing areas and the rows of the device's own sums. -/
theorem rooms_of : iprop((∃ f, oPts (F := F) c Finset.univ fullShare f) ∗ ∃ f, pPts (F := F) c Finset.univ f)
    ⊢ iprop((bigSep Finset.univ fun s : Fin 32 => roomPts (F := F) c s)
        ∗ bigSep Finset.univ fun k : Fin 12 => iprop(∃ f, oPts (F := F) c (rows (sumBlk c k.val)) fullShare f)) := by
  have hO : ∀ f : OBuf F, oPts c Finset.univ fullShare f
      ⊢ iprop((bigSep Finset.univ fun k : Fin 12 => iprop(∃ f, oPts (F := F) c (rows (sumBlk c k.val)) fullShare f))
        ∗ bigSep (Finset.univ.filter fun s : Fin 32 => ¬ s.val < 12) fun s => roomPts (F := F) c s) := fun f => by
    rw [oPts_blocks, split12]
    refine BI.sep_mono (bigSep_mono fun k _ => ?_) (bigSep_mono fun s hs => ?_)
    · rw [show Mesh.rowBlk c (Mesh.idx k) = sumBlk c k.val from Mesh.rowBlk_sum c _ k.isLt]
      show oPts c _ fullShare f ⊢ iprop(∃ f, oPts (F := F) c _ fullShare f)
      iintro H; iexists f; iexact H
    · have h := (Finset.mem_filter.mp hs).2
      unfold roomPts
      rw [if_neg h, Mesh.rowBlk_recv c s (by omega)]
      show oPts c _ fullShare f ⊢ iprop(∃ f, oPts (F := F) c _ fullShare f)
      iintro H; iexists f; iexact H
  have hP : ∀ f : PBuf F, pPts c Finset.univ f ⊢ bigSep Finset.univ fun k : Fin 12 => roomPts (F := F) c (Mesh.idx k) := fun f => by
    rw [pPts_slabs]
    refine bigSep_mono fun k _ => ?_
    unfold roomPts
    rw [if_pos (show (Mesh.idx k).val < 12 from k.isLt)]
    show pPts c (slab k.val) f ⊢ iprop(∃ f, pPts (F := F) c (slab k.val) f)
    iintro H; iexists f; iexact H
  rw [split12 fun s => roomPts (F := F) c s]
  iintro ⟨⟨%f, HO⟩, ⟨%g, HP⟩⟩
  ihave HO := (hO f) $$ HO
  ihave HP := (hP g) $$ HP
  icases HO with ⟨H1, H2⟩
  isplitr [H1]
  · isplitl [HP] <;> iassumption
  iexact H1

/-- What a device is given makes its initial tokens. -/
theorem St_begin : iprop(toks (F := F) c ∗ places (F := F) c 0 ∗ credits (F := F) c ∗ xPts c Finset.univ fullShare (X c)
      ∗ (∃ f, oPts (F := F) c Finset.univ fullShare f) ∗ ∃ f, pPts (F := F) c Finset.univ f)
    ⊢ St X c (held 0) := by
  have hsrc : ∀ k : Fin 12, xPts c (xSend c k) fullShare (X c) = res X c (.src, Mesh.idx k) := fun k => by
    show _ = srcPts X c (Mesh.idx k)
    unfold srcPts; rw [dif_pos (show (Mesh.idx k).val < 12 from k.isLt)]; rfl
  have htok : (bigSep Finset.univ fun s : Fin 32 => res X c (.tok, s)) = iprop((bigSep Finset.univ fun s : Fin 32 => dutyTok ER (sendCell c s) 0 (0 : Fin 3))
      ∗ (bigSep Finset.univ fun s : Fin 32 => dutyTok ER (recvCell (nb (axis s) c) s) 0 (0 : Fin 3))
      ∗ bigSep Finset.univ fun s : Fin 32 => atPos ER (sendCell c s) 0 ∅ 0) := by
    rw [← bigSep_sep', ← bigSep_sep']; rfl
  have hdue : (bigSep Finset.univ fun s : Fin 32 => res X c (.due, s)) = iprop((bigSep Finset.univ fun s : Fin 32 => cred (tallyAt (recvCell c s) () N))
      ∗ bigSep Finset.univ fun s : Fin 32 => atPos ER (recvCell c s) 0 ∅ 0) := by
    rw [← bigSep_sep']; rfl
  unfold St
  rw [Mesh.held_zero, bigSep_eq_bigSepL _ Mesh.initial_nodup]
  unfold Mesh.initial
  rw [bigSepL_append, bigSepL_append, bigSepL_append, bigSepL_append, bigSepL_append, bigSepL_map, bigSepL_map, bigSepL_map, bigSepL_map, bigSepL_map,
    bigSepL_slots, bigSepL_slots, bigSepL_slots, bigSepL_low, bigSepL_low, htok, hdue, xPts_parts, bigSep_congr fun k _ => hsrc k]
  unfold toks places credits
  rw [bigSep_role, bigSep_fin3]
  show _ ⊢ iprop((dutyTok ER (barCell (nb 0 c)) 0 (0 : Fin 3) ∗ dutyTok ER (barCell (nb 1 c)) 0 (1 : Fin 3) ∗ dutyTok ER (barCell (nb 2 c)) 0 (2 : Fin 3)
      ∗ (cred (tallyAt (barCell c) () 3) ∗ atPos ER (barCell c) 0 ∅ 0) ∗ xPts c (xRest c) fullShare (X c)) ∗ _)
  iintro ⟨⟨⟨Hs0, Hs1, Hs2⟩, Hts, Htr⟩, ⟨Hpb, Hps, Hpr⟩, ⟨Hcb, Hcr⟩, ⟨Hsrc, Hx⟩, HO, HP⟩
  ihave HR := (rooms_of (F := F) c) $$ [HO HP]
  · isplitl [HO] <;> iassumption
  icases HR with ⟨Hroom, Hown⟩
  isplitl [Hs0 Hs1 Hs2 Hcb Hpb Hx]
  · isplitl [Hs0]; · iexact Hs0
    isplitl [Hs1]; · iexact Hs1
    isplitl [Hs2]; · iexact Hs2
    isplitr [Hx]
    · isplitl [Hcb]; · iexact Hcb
      iexact Hpb
    iexact Hx
  isplitl [Hts Htr Hps]
  · isplitl [Hts]; · iexact Hts
    isplitl [Htr]; · iexact Htr
    iexact Hps
  isplitl [Hroom]; · iexact Hroom
  isplitl [Hcr Hpr]
  · isplitl [Hcr]; · iexact Hcr
    iexact Hpr
  isplitl [Hsrc]; · iexact Hsrc
  iexact Hown

/-! ## The end -/

/-- The tokens of a block of the result hold it, finished. -/
theorem block_eq (t : Fin 32) : bigSepL (Mesh.block t) (res X c) = oPts c (rows (Mesh.rowBlk c t)) fullShare (result X c) := by
  unfold Mesh.block
  by_cases h : t.val < 12
  · rw [dif_pos h, summed_eq, Mesh.rowBlk_sum c t h]
  · rw [dif_neg h, bigSepL_singleton, ← got_arrival, Mesh.rowBlk_recv c t (by omega)]
    unfold gotPts; rw [if_neg h]

/-- The final tokens make whole buffers: the addends unchanged, the result finished. -/
theorem St_end : St X c (held 112) ⊢ iprop(places (F := F) c 1 ∗ xPts c Finset.univ fullShare (X c)
      ∗ oPts c Finset.univ fullShare (result X c) ∗ pPts c Finset.univ (landed X c)) := by
  have hsrc : ∀ k : Fin 12, res X c (.src, Mesh.idx k) = xPts c (xSend c k) fullShare (X c) := fun k => by
    show srcPts X c (Mesh.idx k) = _
    unfold srcPts; rw [dif_pos (show (Mesh.idx k).val < 12 from k.isLt)]; rfl
  have hgot : ∀ k : Fin 12, res X c (.got, Mesh.idx k) = pPts c (slab k.val) (landed X c) := fun k => by
    show gotPts X c (Mesh.idx k) = _
    unfold gotPts; rw [if_pos (show (Mesh.idx k).val < 12 from k.isLt)]; rfl
  unfold St
  rw [Mesh.held_end, bigSep_eq_bigSepL _ Mesh.final_nodup]
  unfold Mesh.final
  rw [bigSepL_append, bigSepL_append, bigSepL_append, bigSepL_append, bigSepL_append, bigSepL_map, bigSepL_map, bigSepL_map, bigSepL_map, bigSepL_flat,
    bigSepL_low, bigSepL_low, bigSepL_slots, bigSepL_slots, bigSepL_slots, bigSep_congr fun k _ => hsrc k, bigSep_congr fun k _ => hgot k,
    bigSep_congr fun t _ => block_eq X c t, ← oPts_blocks, ← pPts_slabs, xPts_parts]
  unfold places
  rw [bigSep_role]
  show iprop((atPos ER (barCell c) 1 ∅ 0 ∗ xPts c (xRest c) fullShare (X c)) ∗ _ ∗ (bigSep Finset.univ fun s : Fin 32 => atPos ER (sendCell c s) 1 ∅ 0)
    ∗ (bigSep Finset.univ fun s : Fin 32 => atPos ER (recvCell c s) 1 ∅ 0) ∗ _) ⊢ _
  iintro ⟨⟨Hb, Hx⟩, Hsrc, Hs, Hr, Hp, Ho⟩
  isplitl [Hb Hs Hr]
  · isplitl [Hb]; · iexact Hb
    isplitl [Hs]; · iexact Hs
    iexact Hr
  isplitl [Hsrc Hx]
  · isplitl [Hsrc] <;> iassumption
  isplitl [Ho] <;> iassumption

/-- A device past round 0 of all its cells closes them: its semaphores are at zero. -/
theorem close_all : iprop(recs X K ∗ places (F := F) c 1) ⊢ |={Set.univ}=> bigSep Finset.univ fun r : Role => semVal (kcell (c, r)) 0 := by
  unfold places
  refine (bigSep_using fun r _ => ?_).trans (bigSep_fupd _ _)
  iintro ⟨#HR, Ha⟩
  ihave #Hr := (rec_of X K (c, r)) $$ HR
  icases Hr with ⟨#Hi, -⟩
  iapply (Rounds.cell_close ER (rd X) (Set.mem_univ (K (c, r))) (fun h => h) (R := 1) (duties_later X (kcell (c, r))))
  isplitr; · iexact Hi
  iexact Ha

theorem Ow_end : Ow c (held 112) = 0 := by
  unfold Ow
  rw [Mesh.held_end]
  exact Finset.sum_eq_zero fun a ha => owe_zero c a (Mesh.owing_final a (List.mem_toFinset.mp ha))

end Ends

end Cert.KernelIdealProof

end
-- ==== Proof.KernelIdealRun.lean ====
/-
# The run

The launch of the program on all eight devices: the cells' ghost state is made and dealt out, every device runs its
program, and at the end every device's result array holds the finished result.
-/
module

public import proofs.«01_k».proof.Proof.KernelIdealEnds
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdealProof

open Cert.KernelIdeal Cert.KernelIdeal.Gen
open Cert.Mesh (nb half quarter sumBlk axis sendBlk recvBlk owner Token level steps held Step owing arrival slots)
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices owe each other at the start -/

/-- A device's neighbour along an axis, as a permutation of the devices. -/
def nbEquiv (a : Fin 3) : Dev nD ≃ Dev nD := ⟨nb a, nb a, Mesh.nb_nb a, Mesh.nb_nb a⟩

/-- What device `c` owes at the start: a signal to each neighbour, and the arrivals of its copies. -/
def O₀ (c : Dev nD) : CellTallies nD τ sig Unit :=
  (∑ a : Fin 3, tallyAt (barCell (nb a c)) () 1) + ∑ s : Fin 32, tallyAt (recvCell (nb (axis s) c) s) () N

/-- It is what its initial tokens owe. -/
theorem Ow_begin (c : Dev nD) : Ow c (held 0) = O₀ c := by
  unfold Ow O₀
  rw [Mesh.held_zero, List.sum_toFinset _ Mesh.initial_nodup]
  unfold Mesh.initial
  rw [List.map_append, List.sum_append, List.map_append, List.sum_append,
    owe_sum_zero c (_ ++ (_ ++ (_ ++ _))) (by decide +kernel), add_zero, List.map_map, Fin.sum_univ_three, Fin.sum_univ_def]
  refine congrArg₂ (· + ·) ?_ rfl
  show owe c (.sig, 0) + (owe c (.sig, 1) + (owe c (.sig, 2) + (0 + (0 + 0)))) = _
  rw [add_zero, add_zero, add_zero, ← add_assoc]
  rfl

/-- What is owed along a permutation of the devices to one semaphore is the credit of that semaphore on every device. -/
theorem launch_along (e : Dev nD ≃ Dev nD) (sm : SemLoc sig) (n : ℕ) (c : Dev nD) :
    (Pipeline.launchCred (fun d => tallyAt ((e d : Thread nD τ), sm) () n) c : sProp 𝕄) ⊢ cred (tallyAt ((c : Thread nD τ), sm) () n) := by
  refine (Pipeline.launchCred_elim _ c sm).trans (Entails.of_eq (congrArg cred ?_))
  show tallyOn _ _ = tallyOn _ _
  refine congrArg _ (Finsupp.ext fun u => ?_)
  cases u
  rw [Pipeline.launchCredit_owing, Finsupp.single_eq_same,
    Finset.sum_congr rfl fun d _ => (show tallyAt ((e d : Thread nD τ), sm) () n ((c : Thread nD τ), sm) () = if d = e.symm c then n else 0 from by
      rw [tallyAt_apply]
      by_cases h : d = e.symm c
      · subst h; rw [Equiv.apply_symm_apply, if_pos ⟨rfl, rfl⟩, if_pos rfl]
      · rw [if_neg h, if_neg]
        rintro ⟨h', -⟩
        have h' : c = e d := congrArg (fun g : GSem nD τ sig => g.1.1) h'
        exact h (by rw [h', Equiv.symm_apply_apply])),
    Finset.sum_ite_eq' Finset.univ (e.symm c) fun _ => n, if_pos (Finset.mem_univ _)]

/-- The credit the launch deals a device. -/
theorem credits_of (c : Dev nD) : (Pipeline.launchCred O₀ c : sProp 𝕄) ⊢ credits (F := F) c := by
  rw [show (O₀ : Dev nD → CellTallies nD τ sig Unit) = fun d => (∑ a : Fin 3, tallyAt (barCell (nb a d)) () 1)
      + ∑ s : Fin 32, tallyAt (recvCell (nb (axis s) d) s) () N from rfl,
    Pipeline.launchCred_add, Pipeline.launchCred_sum, Pipeline.launchCred_sum]
  unfold credits
  refine BI.sep_mono ?_ (bigSep_mono fun s _ => launch_along (nbEquiv (axis s)) (.dma (recvS s)) N c)
  refine (bigSep_mono fun a _ => launch_along (nbEquiv a) (.reg barS) 1 c).trans ?_
  rw [← Pipeline.cred_finsetSum]
  refine Entails.of_eq (congrArg cred ?_)
  rw [Fin.sum_univ_three]
  unfold tallyAt
  show tallyOn (barCell c) _ + tallyOn (barCell c) _ + tallyOn (barCell c) _ = _
  rw [← tallyOn_add, ← tallyOn_add, ← Finsupp.single_add, ← Finsupp.single_add]

/-! ## The proof data of the call -/

section Run
variable (m : (ℓ : Loc nD τ sig) → Buf (Elt F) ℓ) (ρ : Dev nD → PrngReg)

/-- The machine at the start. -/
def s₀ : MemSt nD τ sig (Elt F) := ⟨m, fun _ => 0, ρ⟩

/-- The addends of device `c`, staged. -/
def xstg (c : Dev nD) : XBuf F := (win0_0.blk (0 : Fin 1)).view.read (Elt F) ((s₀ m ρ).mem ((c : Thread nD τ).loc main_arg0))

/-- What device `c`'s program starts from, beside its buffers. -/
def start (c : Dev nD) : sProp 𝕄 :=
  iprop((∃ K, iprop(recs (xstg m ρ) K ∗ places (F := F) c 0 ∗ toks (F := F) c)) ∗ credits (F := F) c ∗ levAts L lv)

/-- Before the program: that, and the landing buffer. -/
def Φ₀ (c : Dev nD) : sProp 𝕄 := iprop(start m ρ c ∗ ∃ f, pPts (F := F) c Finset.univ f)
/-- After the program: the landing buffer, and every semaphore at zero. -/
def Φ₁ (c : Dev nD) : sProp 𝕄 :=
  iprop(pPts c Finset.univ (landed (xstg m ρ) c) ∗ bigSep Finset.univ fun r : Role => semVal (kcell (c, r)) 0)

/-- The call's data: what the two arrays are staged at, what the program holds before and after, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => result (xstg m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A whole staging buffer at known contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the program's obligation starts from, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it ends with. -/
def bodyPost (c : Dev nD) : sProp 𝕄 :=
  iprop(Φ₁ m ρ c ∗ (dats m ρ 0 c).owesAt () t0_0.succ ∗ stg c cc0_stg0_0 (xstg m ρ c) ∗ stg c cc0_stg1_0 (result (xstg m ρ) c))

/-- The program from its first event. -/
theorem pre_state (c : Dev nD) : bodyPre m ρ c ⊢ iprop(∃ K, SS (xstg m ρ) K c 0) := by
  unfold bodyPre Φ₀ start
  iintro ⟨⟨⟨⟨%K, #HR, Hat, Htok⟩, Hcr, #HL⟩, HP⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  iexists K
  unfold SS
  isplitr; · iexact HR
  isplitr; · iexact HL
  isplitr [HO]
  · iapply (St_begin (xstg m ρ) c)
    isplitl [Htok]; · iexact Htok
    isplitl [Hat]; · iexact Hat
    isplitl [Hcr]; · iexact Hcr
    isplitl [Hx]; · unfold xPts; iexact Hx
    isplitl [Hout]
    · iexists g1; unfold oPts; iexact Hout
    iexact HP
  rw [Ow_begin]
  iexists W; iexact HO

/-- The program after its last event. -/
theorem post_state (K : Dev nD × Role → ℕ) (c : Dev nD) : SS (xstg m ρ) K c 112 ⊢ |={Set.univ}=> bodyPost m ρ c := by
  unfold SS bodyPost Φ₁
  rw [Ow_end]
  iintro ⟨#HR, -, HS, ⟨%W, HO⟩⟩
  ihave HS := (St_end (xstg m ρ) c) $$ HS
  icases HS with ⟨Hat, Hx, Ho, Hp⟩
  imod (close_all (xstg m ρ) K c) $$ [Hat] with Hz
  · isplitr; · iexact HR
    iexact Hat
  imodintro
  isplitl [Hp Hz]
  · isplitl [Hp]; · iexact Hp
    iexact Hz
  isplitl [HO]
  · unfold Dat.owesAt Pipeline.owesWithin
    rw [show (dats m ρ 0 c).owed t0_0.succ = 0 from rfl]
    iexists W
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Ho

set_option maxRecDepth 100000 in
/-- The obligation of the call's one point. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ Runs c (cc0_body (F := F) xM (Memref.isWhole_whole _) oM (Memref.isWhole_whole _) pM (Memref.isWhole_whole _) cc0_scratch1 cc0_scratch2)
    (fun _ => bodyPost m ρ c)
  refine (pre_state m ρ c).trans ?_
  iintro ⟨%K, H⟩
  iapply (body (xstg m ρ) K c (post_state m ρ K c))
  iexact H

/-! ## The launch -/

/-- The kernel's own semaphores. -/
abbrev osem : Bool × Fin 32 → SemLoc sig := fun b => semOf (some b)

theorem osem_inj : Function.Injective osem := fun a b h => by
  have h' : some (some a) = some (some b) := by rw [← roleOf_semOf, ← roleOf_semOf]; exact congrArg roleOf h
  exact Option.some.inj (Option.some.inj h')

theorem ownSemFacts : Pipeline.OwnSemFacts cfg0.spec osem where
  isScoped := by decide
  inj := osem_inj
  disj := by decide

theorem share_eq (c : Dev nD) (w : Fin cfg0.W) : (dats m ρ 0 c).share w = fullShare := by unfold Dat.share; split <;> rfl

/-- All cells. -/
def allCells : Finset (GSem nD τ sig) := Finset.univ.map ⟨kcell, kcell_injective⟩
/-- A token for every neighbour at every cell. -/
def tokOf (x : (Dev nD × Role) × Fin 3) : GSem nD τ sig × ℕ × Fin 3 := (kcell x.1, 0, x.2)
theorem tokOf_injective : Function.Injective tokOf := fun x y h =>
  Prod.ext (kcell_injective (congrArg (fun z => z.1) h)) (congrArg (fun z => z.2.2) h)
/-- All tokens. -/
def allToks : Finset (GSem nD τ sig × ℕ × Fin 3) := Finset.univ.map ⟨tokOf, tokOf_injective⟩

/-- The ghost state at the launch. -/
def u₀ : UU := (initOf (Pipeline.cells cfgs cellOf_inj) (Pipeline.launchToks cfgs cellOf_inj), initOf allCells allToks)

/-- The duty tokens of device `c`'s own cells. -/
def ownToks (c : Dev nD) : sProp 𝕄 :=
  iprop((bigSep Finset.univ fun a : Fin 3 => dutyTok ER (barCell c) 0 a)
    ∗ (bigSep Finset.univ fun s : Fin 32 => dutyTok ER (sendCell c s) 0 (0 : Fin 3))
    ∗ bigSep Finset.univ fun s : Fin 32 => dutyTok ER (recvCell c s) 0 (0 : Fin 3))

/-- What the launch deals device `c`, -/
def G (c : Dev nD) : sProp 𝕄 :=
  iprop((bigSep Finset.univ fun r : Role => roundState ER (rd (xstg m ρ)) (kcell (c, r)) 0)
    ∗ places (F := F) c 0 ∗ (bigSep Finset.univ fun r : Role => reached ER (kcell (c, r)) 0) ∗ ownToks (F := F) c)
/-- and what all devices together make of it. -/
def G' (c : Dev nD) : sProp 𝕄 := iprop(∃ K, iprop(recs (xstg m ρ) K ∗ places (F := F) c 0 ∗ toks (F := F) c))

/-- Of all tokens at a device's cells, those of actual duties. -/
theorem ownToks_of (c : Dev nD) :
    (bigSep Finset.univ fun r : Role => bigSep Finset.univ fun d : Fin 3 => dutyTok ER (kcell (c, r)) 0 d : sProp 𝕄) ⊢ ownToks c := by
  rw [bigSep_role]
  unfold ownToks
  exact BI.sep_mono (Entails.refl _) (BI.sep_mono (bigSep_mono fun s _ => bigSep_elim (Finset.mem_univ (0 : Fin 3)))
    (bigSep_mono fun s _ => bigSep_elim (Finset.mem_univ (0 : Fin 3))))

/-- The ghost state, dealt out. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun r : Role => Φ (kcell (c, r)) := by
    unfold allCells; rw [bigSep_map, bigSep_univ_prod]; rfl
  have hT : bigSep allToks (fun x => (dutyTok ER x.1 x.2.1 x.2.2 : sProp 𝕄)) ⊢ bigSep Finset.univ fun c : Dev nD => ownToks c := by
    unfold allToks
    rw [bigSep_map, bigSep_univ_prod, bigSep_univ_prod]
    exact bigSep_mono fun c _ => ownToks_of c
  iintro HX
  imod (Rounds.fund ER (rd (xstg m ρ)) allCells allToks) $$ HX with ⟨Hst, Hr, Hat, Htok⟩
  imodintro
  ihave Hst := (Entails.of_eq (hX fun g => roundState ER (rd (xstg m ρ)) g 0)) $$ Hst
  ihave Hat := (Entails.of_eq (hX fun g => atPos ER g 0 ∅ 0)) $$ Hat
  ihave Hr := (Entails.of_eq (hX fun g => reached ER g 0)) $$ Hr
  ihave Htok := hT $$ Htok
  unfold G places
  simp only [bigSep_sep']
  isplitl [Hst]; · iexact Hst
  isplitl [Hat]; · iexact Hat
  isplitl [Hr]; · iexact Hr
  iexact Htok

/-- The semaphores the call hands over at zero, and those of the runtime, are the cells' counters at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun r : Role => semVal (kcell (c, r)) 0 : sProp 𝕄) := by
  rw [show (unscopedSems0 c : sProp 𝕄) = semVal (barCell c) 0 from by
      unfold unscopedSems0; rw [bigSep_eq_bigSepL_of_eq [SemLoc.reg barS] (by decide) (by decide)]; rfl]
  unfold Pipeline.ownSems0
  rw [bigSep_role, bigSep_univ_prod, bigSep_univ_eq_bigSepL [false, true] (by decide) (by decide)]
  rfl

/-- A device makes the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun r => iprop(∃ κ : ℕ, cellInv ER (rd (xstg m ρ)) κ (kcell (c, r))))
          ∗ places (F := F) c 0 ∗ (bigSep Finset.univ fun r : Role => reached ER (kcell (c, r)) 0) ∗ ownToks (F := F) c) := by
  have halloc : iprop((bigSep Finset.univ fun r : Role => semVal (kcell (c, r)) 0) ∗ bigSep Finset.univ fun r : Role => roundState ER (rd (xstg m ρ)) (kcell (c, r)) 0)
      ⊢ (|={Set.univ}=> bigSep Finset.univ fun r => iprop(∃ κ : ℕ, cellInv ER (rd (xstg m ρ)) κ (kcell (c, r))) : sProp 𝕄) := by
    rw [← bigSep_sep']
    exact (bigSep_mono fun r _ => (Rounds.body_intro ER (rd (xstg m ρ)) (kcell (c, r))).trans inv_alloc).trans (bigSep_fupd _ _)
  unfold G
  iintro ⟨Hos, Hus, Hst, Hat, Hr, Htok⟩
  ihave Hv := (Entails.of_eq (sems0_eq (F := F) c)) $$ [Hos Hus]
  · isplitl [Hus]; · iexact Hus
    iexact Hos
  imod halloc $$ [Hv Hst] with Hinv
  · isplitl [Hv]; · iexact Hv
    iexact Hst
  imodintro
  isplitl [Hinv]; · iexact Hinv
  isplitl [Hat]; · iexact Hat
  isplitl [Hr]; · iexact Hr
  iexact Htok

/-- The tokens go from the devices whose cells they are of to the devices that pay. -/
theorem toks_around : (bigSep Finset.univ fun c : Dev nD => (ownToks c : sProp 𝕄)) = bigSep Finset.univ fun c : Dev nD => toks c := by
  unfold ownToks toks
  rw [bigSep_sep', bigSep_sep', bigSep_sep', bigSep_sep', BI.bigSep_univ_comm, BI.bigSep_univ_comm fun (c : Dev nD) (s : Fin 32) => (dutyTok ER (recvCell c s) 0 (0 : Fin 3) : sProp 𝕄),
    BI.bigSep_univ_comm fun (c : Dev nD) (a : Fin 3) => (dutyTok ER (barCell (nb a c)) 0 a : sProp 𝕄),
    BI.bigSep_univ_comm fun (c : Dev nD) (s : Fin 32) => (dutyTok ER (recvCell (nb (axis s) c) s) 0 (0 : Fin 3) : sProp 𝕄),
    bigSep_congr fun (a : Fin 3) _ => bigSep_univ_equiv (nbEquiv a) fun c : Dev nD => (dutyTok ER (barCell c) 0 a : sProp 𝕄),
    bigSep_congr fun (s : Fin 32) _ => bigSep_univ_equiv (nbEquiv (axis s)) fun c : Dev nD => (dutyTok ER (recvCell c s) 0 (0 : Fin 3) : sProp 𝕄)]
  rfl

/-- All devices' shares, regrouped. -/
theorem regroup :
    (bigSep Finset.univ fun c : Dev nD => iprop((bigSep Finset.univ fun r => iprop(∃ κ : ℕ, cellInv ER (rd (xstg m ρ)) κ (kcell (c, r))))
          ∗ places (F := F) c 0 ∗ (bigSep Finset.univ fun r : Role => reached ER (kcell (c, r)) 0) ∗ ownToks (F := F) c) : sProp 𝕄)
      ⊢ bigSep Finset.univ (G' m ρ) := by
  rw [bigSep_sep', bigSep_sep', bigSep_sep', toks_around, ← bigSep_univ_prod (fun cr : Dev nD × Role => iprop(∃ κ : ℕ, cellInv ER (rd (xstg m ρ)) κ (kcell cr))),
    ← bigSep_univ_prod (fun cr : Dev nD × Role => (reached ER (kcell cr) 0 : sProp 𝕄))]
  iintro ⟨HI, Hat, HR, Htok⟩
  ihave HK := (BI.bigSep_exists_pi Finset.univ (fun (cr : Dev nD × Role) (κ : ℕ) => (cellInv ER (rd (xstg m ρ)) κ (kcell cr) : sProp 𝕄))) $$ HI
  icases HK with ⟨%K, HI⟩
  ihave Hrec := (Entails.of_eq (bigSep_sep' Finset.univ (fun cr : Dev nD × Role => (cellInv ER (rd (xstg m ρ)) (K cr) (kcell cr) : sProp 𝕄)) fun cr => reached ER (kcell cr) 0).symm) $$ [HI HR]
  · isplitl [HI]; · iexact HI
    iexact HR
  iapply (bigSep_using (R := recs (xstg m ρ) K) (Φ := fun c : Dev nD => iprop(places (F := F) c 0 ∗ toks (F := F) c)) (Ψ := G' m ρ) fun c _ => by
    unfold G'; iintro ⟨H1, H2⟩; iexists K; isplitl [H1]; · iexact H1
    iexact H2)
  isplitl [Hrec]; · unfold recs; iexact Hrec
  rw [bigSep_sep']
  isplitl [Hat]; · iexact Hat
  iexact Htok

/-- All devices together go from what the launch deals to what their programs start from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_of (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold pPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [← sems0_eq]
  iintro ⟨Hr, Hu, Ho⟩
  isplitl [Hu]; · iexact Hu
  isplitl [Ho]; · iexact Ho
  iexists (landed (xstg m ρ) c); unfold pPts; iexact Hr

/-- A wait for a staging copy is below all a device owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hq) (fun g u hg => ?_)
    all_goals
      rw [← Ow_begin] at hg
      obtain ⟨a, -, ha⟩ := Ow_pos hg
      obtain ⟨h1, h2, h3⟩ := owe_pos ha
    · unfold L; rw [if_pos h1]; exact Finset.mem_singleton_self _
    · rw [h2]; exact h3
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What the windows' arrays hold in the end. -/
def finalA (c : Dev nD) (w : Fin cfg0.W) : Buf (Elt F) ((cfg0.win w).arr.view.loc (c : Thread nD τ)) := (dats m ρ 0 c).arrAt w cfg0.N

/-- The arrays end at these contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with all counters at zero every weakly fair execution on the eight devices ends, with the arrays at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The addends' array after the run holds what it held. -/
theorem finalA_x (c : Dev nD) : finalA m ρ c (0 : Fin 2) = m ((c : Thread nD τ).loc main_arg0) :=
  (dats (F := F) m ρ 0 c).arrAt_in (0 : Fin 2) rfl _

/-- The staged addends are the whole array of addends. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The result's array after the run holds the result. -/
theorem finalA_out (c : Dev nD) : finalA m ρ c (1 : Fin 2) = result (fun d : Dev nD => m ((d : Thread nD τ).loc main_arg0)) c := by
  have h : (win0_1.blk (0 : Fin 1)).view.read (Elt F) (finalA m ρ c (1 : Fin 2)) = result (xstg m ρ) c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [show xstg m ρ = fun d : Dev nD => m ((d : Thread nD τ).loc main_arg0) from funext fun d => xstg_eq m ρ d] at h
  exact (Memref.read_access_unit_zero (Elt F) main_v1 (off := fun a => (win0_1.index (0 : Fin 1)) a * main_v1.ty.shape.size a)
    (funext fun a => by fin_cases a <;> decide) (fun a => by fin_cases a <;> decide) _).symm.trans h

/-- From any memory with all counters at zero every weakly fair execution ends, with every device's addends unchanged,
    its result in its result array, and every counter at zero. -/
theorem run : θ_run defs (onTc (τ := τ) (main (F := F))) (s₀ m ρ) (fun r => (∀ c : Dev nD,
      r.2.mem ((c : Thread nD τ).loc main_v1) = result (fun d : Dev nD => m ((d : Thread nD τ).loc main_arg0)) c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_out m ρ c), (h.1 c (0 : Fin 2)).trans (finalA_x m ρ c)⟩, h.2⟩)
    (run_main m ρ)

end Run

end Cert.KernelIdealProof

end
-- ==== Proof.Value.lean ====
/-
# The value

At exact arithmetic, the result on every device is that device's columns of the reference's sum over the first axis.
-/
module

public import proofs.«01_k».proof.Proof.KernelIdealRun
public import proofs.«01_k».proof.Proof.Gen.ReferenceIdeal.Run
public import Idealize.ShloMosaic.Lib.Layout
public import Idealize.ShloMosaic.Lib.Pointwise
public import Idealize.ShloMosaic.PureOps.Ideal

@[expose] public section

noncomputable section

namespace Cert.Value

open Idealize.ShloMosaic
open Cert.Mesh (nb half owner)
open Cert.KernelIdealProof (XBuf at3 sums result)

/-- The whole array of addends. -/
abbrev Whole : Type := (⟨3, ![2, 1024, 1024]⟩ : Shape).Idx → Elt Ideal .f32

/-- The addend in row `r` and column `k` of half `h` of the whole array. -/
def wholeAt (v : Whole) (h r k : ℕ) : EReal :=
  v (ix3 (⟨h % 2, Nat.mod_lt _ (by decide)⟩ : Fin 2) (⟨r % 1024, Nat.mod_lt _ (by decide)⟩ : Fin 1024) (⟨k % 1024, Nat.mod_lt _ (by decide)⟩ : Fin 1024))

/-- The reference: both halves of the whole array added up. -/
def total (v : Whole) : (⟨2, ![1024, 1024]⟩ : Shape).Idx → Elt Ideal .f32 :=
  Host.reduceAdd (F := Ideal) (φ := .f32) v (constant Cert.ReferenceIdeal.S_ .f32 0x00000000#32)
    Cert.ReferenceIdeal.Gen.reducesTo_S2x1024x1024_S1024x1024_d0 Cert.ReferenceIdeal.Gen.h_S_

/-- The reference at an index. -/
theorem total_apply (v : Whole) (j : (⟨2, ![1024, 1024]⟩ : Shape).Idx) :
    total v j = wholeAt v 0 (j 0).val (j 1).val + wholeAt v 1 (j 0).val (j 1).val := by
  have h0 : (j 0).val < 1024 := (j 0).isLt
  have h1 : (j 1).val < 1024 := (j 1).isLt
  unfold total wholeAt
  simp only [Nat.mod_eq_of_lt h0, Nat.mod_eq_of_lt h1]
  rw [Host.reduceAdd_apply]
  show Ideal.hostReduceAdd _ _ _ j = _
  rw [Ideal.hostReduceAdd_r3_a0, Fin.sum_univ_two]
  refine (congrArg (· + _) Ideal.ofBits_zero_f32).trans (zero_add _)

/-- A device and the one that added a block up for it have the same columns. -/
theorem half_owner (c : Fin 8) (b : ℕ) : half (owner c b) = half c := by
  have h1 : half (nb 1 c) = half c := by revert c; decide
  have h2 : half (nb 2 c) = half c := by revert c; decide
  have h3 : half (Mesh.diag c) = half c := by revert c; decide
  unfold owner
  split_ifs <;> first | rfl | assumption

/-- The neighbour along x has the other columns. -/
theorem half_across (c : Fin 8) : half (nb 0 c) = 1 - half c ∧ half c < 2 := by revert c; decide

/-- Cutting the first axis along x is a cut along an axis of the mesh, -/
theorem live_in : ∀ b : Fin 3, ∀ i ∈ (![[0], [], []] : Fin 3 → List ℕ) b, 0 < [2, 2, 2].getD i 0 := by decide
/-- and so is cutting the columns along x; -/
theorem live_out : ∀ b : Fin 2, ∀ i ∈ (![[], [0]] : Fin 2 → List ℕ) b, 0 < [2, 2, 2].getD i 0 := by decide
/-- the halves of the addends make up the whole array, -/
theorem tiles_in : Layout.TilesN ⟨3, ![1, 1024, 1024]⟩ ⟨3, ![2, 1024, 1024]⟩ (fun b => Layout.cutSize [2, 2, 2] ((![[0], [], []] : Fin 3 → List ℕ) b)) := by decide
/-- and the two column halves the whole result. -/
theorem tiles_out : Layout.TilesN ⟨2, ![1024, 512]⟩ ⟨2, ![1024, 1024]⟩ (fun b => Layout.cutSize [2, 2, 2] ((![[], [0]] : Fin 2 → List ℕ) b)) := by decide

section
variable (v : Whole) (X : Fin 8 → XBuf Ideal)
  (hX : ∀ d : Fin 8, X d = Layout.blockN ⟨3, ![1, 1024, 1024]⟩ ⟨3, ![2, 1024, 1024]⟩ (Layout.meshBlock [2, 2, 2] ![[0], [], []] d live_in) v tiles_in)
include hX

/-- A device's addends are its half of the whole array. -/
theorem addend (d : Fin 8) (r k : ℕ) : X d (at3 r k) = wholeAt v (half d) r k := by
  rw [hX d]
  unfold Layout.blockN wholeAt
  have hd : ((Layout.meshBlock [2, 2, 2] ![[0], [], []] d live_in) 0).val = half d % 2 := by revert d; decide
  refine congrArg v (funext fun a => Fin.ext ?_)
  rw [Layout.TilesN.idx_val]
  match a with
  | ⟨0, _⟩ => exact (Nat.mul_one _).trans hd
  | ⟨1, _⟩ => exact Nat.zero_add _
  | ⟨2, _⟩ => exact Nat.zero_add _

/-- Every device's result is its columns of the reference. -/
theorem value (c : Fin 8) :
    result X c = Layout.blockN ⟨2, ![1024, 512]⟩ ⟨2, ![1024, 1024]⟩ (Layout.meshBlock [2, 2, 2] ![[], [0]] c live_out) (total v) tiles_out := by
  funext i
  have hi : (i 1).val < 512 := (i 1).isLt
  have hc : ((Layout.meshBlock [2, 2, 2] ![[], [0]] c live_out) 1).val = half c := by revert c; decide
  rw [Layout.blockN_apply, total_apply, Layout.TilesN.idx_val, Layout.TilesN.idx_val]
  show sums X (owner c ((i 0).val / 32)) i = wholeAt v 0 (0 * 1024 + (i 0).val) (((Layout.meshBlock [2, 2, 2] ![[], [0]] c live_out) 1).val * 512 + (i 1).val)
    + wholeAt v 1 (0 * 1024 + (i 0).val) (((Layout.meshBlock [2, 2, 2] ![[], [0]] c live_out) 1).val * 512 + (i 1).val)
  rw [hc, zero_mul, zero_add]
  unfold sums
  rw [half_owner, addend v X hX, addend v X hX, (half_across _).1, half_owner, mul_comm (half c) 512]
  have h2 := (half_across c).2
  show _ + _ = _
  interval_cases half c
  · rfl
  · exact add_comm _ _

end

end Cert.Value

end
-- ==== Proof.lean ====
/-
# The claims

Each claim from its program's run: the kernel's frames from `run` of the two kernel modules, the reference's from its
own run, and the value claim from both runs and `Value.value`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates with its addends unchanged and every counter at zero. -/
theorem frame_kernel : Cert.quiescent_Kernel := fun m g _ =>
  (θ_run Cert.Kernel.defs _ _).mono (fun _ h => ⟨fun c => (h.1 c).2, h.2⟩) (Cert.KernelProof.run (F := Bits) m g)

/-- So does its idealization. -/
theorem frame_kernelIdeal : Cert.quiescent_KernelIdeal := fun m g _ =>
  (θ_run Cert.KernelIdeal.defs _ _).mono (fun _ h => ⟨fun c => (h.1 c).2, h.2⟩) (Cert.KernelIdealProof.run (F := Ideal) m g)

/-- So does the reference, which has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- At exact arithmetic every device ends with its columns of the reference's result. -/
theorem algebraic : Cert.algebraic_KernelIdeal_ReferenceIdeal := fun m g m' g' _ hm =>
  ⟨Cert.Value.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.Value.value _ _ hm c), (h.1 c).2⟩)
      (Cert.KernelIdealProof.run (F := Ideal) m g),
    (θ_run Cert.ReferenceIdeal.defs _ _).mono (fun _ h => h 0) (Cert.ReferenceIdeal.Value.run (F := Ideal) m' g')⟩

/-- All of them. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
